-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "big" .f32 0x7F61B1E6#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x384x384 : Shape := ⟨4, ![2, 96, 384, 384]⟩
abbrev S96x96x1x1 : Shape := ⟨4, ![96, 96, 1, 1]⟩
abbrev S96x1x3x3 : Shape := ⟨4, ![96, 1, 3, 3]⟩
abbrev S192x96x1x1 : Shape := ⟨4, ![192, 96, 1, 1]⟩
abbrev S192x1x3x3 : Shape := ⟨4, ![192, 1, 3, 3]⟩
abbrev S4x1x1 : Shape := ⟨3, ![4, 1, 1]⟩
abbrev S1 : Shape := ⟨1, ![1]⟩
abbrev S2x96x147456 : Shape := ⟨3, ![2, 96, 147456]⟩
abbrev S96x96 : Shape := ⟨2, ![96, 96]⟩
abbrev S96x9 : Shape := ⟨2, ![96, 9]⟩
abbrev S4 : Shape := ⟨1, ![4]⟩
abbrev S4x24 : Shape := ⟨2, ![4, 24]⟩
abbrev S96 : Shape := ⟨1, ![96]⟩
abbrev S96x1 : Shape := ⟨2, ![96, 1]⟩
abbrev S1x1 : Shape := ⟨2, ![1, 1]⟩
abbrev S2x96x1 : Shape := ⟨3, ![2, 96, 1]⟩
abbrev S1x96x6144 : Shape := ⟨3, ![1, 96, 6144]⟩
abbrev S1x96x384 : Shape := ⟨3, ![1, 96, 384]⟩
abbrev S1x96x1 : Shape := ⟨3, ![1, 96, 1]⟩
abbrev S96x6144 : Shape := ⟨2, ![96, 6144]⟩
abbrev S96x384 : Shape := ⟨2, ![96, 384]⟩
abbrev S96x6912 : Shape := ⟨2, ![96, 6912]⟩
abbrev S1x6912 : Shape := ⟨2, ![1, 6912]⟩
abbrev S96x6911 : Shape := ⟨2, ![96, 6911]⟩
abbrev S2x96x24 : Shape := ⟨3, ![2, 96, 24]⟩
abbrev S1x96x24 : Shape := ⟨3, ![1, 96, 24]⟩
abbrev S24x6144 : Shape := ⟨2, ![24, 6144]⟩
abbrev S24x24 : Shape := ⟨2, ![24, 24]⟩
abbrev S96x24 : Shape := ⟨2, ![96, 24]⟩

abbrev nBuf : Space → Nat
  | .hbm => 37
  | .vmem => 61
  | .smem => 0
  | _ => 0

abbrev bufTy : (tb : Table) → Fin (tcTables nBuf tb) → BufTy
  | .hbm, ⟨0, _⟩ => ⟨S2x96x384x384, .f32⟩
  | .hbm, ⟨1, _⟩ => ⟨S2x96x384x384, .f32⟩
  | .hbm, ⟨2, _⟩ => ⟨S96x96x1x1, .f32⟩
  | .hbm, ⟨3, _⟩ => ⟨S96x1x3x3, .f32⟩
  | .hbm, ⟨4, _⟩ => ⟨S192x96x1x1, .f32⟩
  | .hbm, ⟨5, _⟩ => ⟨S192x1x3x3, .f32⟩
  | .hbm, ⟨6, _⟩ => ⟨S96x96x1x1, .f32⟩
  | .hbm, ⟨7, _⟩ => ⟨S4x1x1, .f32⟩
  | .hbm, ⟨8, _⟩ => ⟨S1, .f32⟩
  | .hbm, ⟨9, _⟩ => ⟨S2x96x147456, .f32⟩
  | .hbm, ⟨10, _⟩ => ⟨S2x96x147456, .f32⟩
  | .hbm, ⟨11, _⟩ => ⟨S96x96, .f32⟩
  | .hbm, ⟨12, _⟩ => ⟨S96x96, .bf16⟩
  | .hbm, ⟨13, _⟩ => ⟨S96x96x1x1, .f32⟩
  | .hbm, ⟨14, _⟩ => ⟨S96x96, .f32⟩
  | .hbm, ⟨15, _⟩ => ⟨S96x96, .bf16⟩
  | .hbm, ⟨16, _⟩ => ⟨S96x96x1x1, .f32⟩
  | .hbm, ⟨17, _⟩ => ⟨S96x96, .f32⟩
  | .hbm, ⟨18, _⟩ => ⟨S96x96, .bf16⟩
  | .hbm, ⟨19, _⟩ => ⟨S96x9, .f32⟩
  | .hbm, ⟨20, _⟩ => ⟨S96x1x3x3, .f32⟩
  | .hbm, ⟨21, _⟩ => ⟨S96x9, .f32⟩
  | .hbm, ⟨22, _⟩ => ⟨S96x1x3x3, .f32⟩
  | .hbm, ⟨23, _⟩ => ⟨S96x9, .f32⟩
  | .hbm, ⟨24, _⟩ => ⟨S96x96, .f32⟩
  | .hbm, ⟨25, _⟩ => ⟨S96x96, .bf16⟩
  | .hbm, ⟨26, _⟩ => ⟨S4, .f32⟩
  | .hbm, ⟨27, _⟩ => ⟨S4x24, .f32⟩
  | .hbm, ⟨28, _⟩ => ⟨S96, .f32⟩
  | .hbm, ⟨29, _⟩ => ⟨S96x1, .f32⟩
  | .hbm, ⟨30, _⟩ => ⟨S1x1, .f32⟩
  | .hbm, ⟨31, _⟩ => ⟨S2x96x1, .f32⟩
  | .hbm, ⟨32, _⟩ => ⟨S2x96x1, .f32⟩
  | .hbm, ⟨33, _⟩ => ⟨S2x96x24, .f32⟩
  | .hbm, ⟨34, _⟩ => ⟨S2x96x24, .f32⟩
  | .hbm, ⟨35, _⟩ => ⟨S2x96x147456, .f32⟩
  | .hbm, ⟨36, _⟩ => ⟨S2x96x384x384, .f32⟩
  | .local _ .vmem, ⟨0, _⟩ => ⟨S1x96x6144, .f32⟩
  | .local _ .vmem, ⟨1, _⟩ => ⟨S1x96x6144, .f32⟩
  | .local _ .vmem, ⟨2, _⟩ => ⟨S1x96x384, .f32⟩
  | .local _ .vmem, ⟨3, _⟩ => ⟨S1x96x384, .f32⟩
  | .local _ .vmem, ⟨4, _⟩ => ⟨S1x96x384, .f32⟩
  | .local _ .vmem, ⟨5, _⟩ => ⟨S1x96x384, .f32⟩
  | .local _ .vmem, ⟨6, _⟩ => ⟨S1x96x6144, .f32⟩
  | .local _ .vmem, ⟨7, _⟩ => ⟨S1x96x6144, .f32⟩
  | .local _ .vmem, ⟨8, _⟩ => ⟨S1x96x384, .f32⟩
  | .local _ .vmem, ⟨9, _⟩ => ⟨S1x96x384, .f32⟩
  | .local _ .vmem, ⟨10, _⟩ => ⟨S1x96x384, .f32⟩
  | .local _ .vmem, ⟨11, _⟩ => ⟨S1x96x384, .f32⟩
  | .local _ .vmem, ⟨12, _⟩ => ⟨S96x96, .bf16⟩
  | .local _ .vmem, ⟨13, _⟩ => ⟨S96x9, .f32⟩
  | .local _ .vmem, ⟨14, _⟩ => ⟨S96x96, .bf16⟩
  | .local _ .vmem, ⟨15, _⟩ => ⟨S96x9, .f32⟩
  | .local _ .vmem, ⟨16, _⟩ => ⟨S1x96x1, .f32⟩
  | .local _ .vmem, ⟨17, _⟩ => ⟨S1x96x1, .f32⟩
  | .local _ .vmem, ⟨18, _⟩ => ⟨S1x96x1, .f32⟩
  | .local _ .vmem, ⟨19, _⟩ => ⟨S1x96x1, .f32⟩
  | .local _ .vmem, ⟨20, _⟩ => ⟨S1x96x6144, .f32⟩
  | .local _ .vmem, ⟨21, _⟩ => ⟨S1x96x6144, .f32⟩
  | .local _ .vmem, ⟨22, _⟩ => ⟨S1x96x384, .f32⟩
  | .local _ .vmem, ⟨23, _⟩ => ⟨S1x96x384, .f32⟩
  | .local _ .vmem, ⟨24, _⟩ => ⟨S1x96x384, .f32⟩
  | .local _ .vmem, ⟨25, _⟩ => ⟨S1x96x384, .f32⟩
  | .local _ .vmem, ⟨26, _⟩ => ⟨S1x96x6144, .f32⟩
  | .local _ .vmem, ⟨27, _⟩ => ⟨S1x96x6144, .f32⟩
  | .local _ .vmem, ⟨28, _⟩ => ⟨S1x96x384, .f32⟩
  | .local _ .vmem, ⟨29, _⟩ => ⟨S1x96x384, .f32⟩
  | .local _ .vmem, ⟨30, _⟩ => ⟨S1x96x384, .f32⟩
  | .local _ .vmem, ⟨31, _⟩ => ⟨S1x96x384, .f32⟩
  | .local _ .vmem, ⟨32, _⟩ => ⟨S96x96, .bf16⟩
  | .local _ .vmem, ⟨33, _⟩ => ⟨S96x9, .f32⟩
  | .local _ .vmem, ⟨34, _⟩ => ⟨S96x96, .bf16⟩
  | .local _ .vmem, ⟨35, _⟩ => ⟨S96x9, .f32⟩
  | .local _ .vmem, ⟨36, _⟩ => ⟨S1x96x1, .f32⟩
  | .local _ .vmem, ⟨37, _⟩ => ⟨S1x96x1, .f32⟩
  | .local _ .vmem, ⟨38, _⟩ => ⟨S1x96x1, .f32⟩
  | .local _ .vmem, ⟨39, _⟩ => ⟨S1x96x1, .f32⟩
  | .local _ .vmem, ⟨40, _⟩ => ⟨S1x96x24, .f32⟩
  | .local _ .vmem, ⟨41, _⟩ => ⟨S1x96x24, .f32⟩
  | .local _ .vmem, ⟨42, _⟩ => ⟨S1x96x24, .f32⟩
  | .local _ .vmem, ⟨43, _⟩ => ⟨S1x96x24, .f32⟩
  | .local _ .vmem, ⟨44, _⟩ => ⟨S96x1, .f32⟩
  | .local _ .vmem, ⟨45, _⟩ => ⟨S1x96x24, .f32⟩
  | .local _ .vmem, ⟨46, _⟩ => ⟨S1x96x24, .f32⟩
  | .local _ .vmem, ⟨47, _⟩ => ⟨S1x96x6144, .f32⟩
  | .local _ .vmem, ⟨48, _⟩ => ⟨S1x96x6144, .f32⟩
  | .local _ .vmem, ⟨49, _⟩ => ⟨S1x96x384, .f32⟩
  | .local _ .vmem, ⟨50, _⟩ => ⟨S1x96x384, .f32⟩
  | .local _ .vmem, ⟨51, _⟩ => ⟨S1x96x384, .f32⟩
  | .local _ .vmem, ⟨52, _⟩ => ⟨S1x96x384, .f32⟩
  | .local _ .vmem, ⟨53, _⟩ => ⟨S96x96, .bf16⟩
  | .local _ .vmem, ⟨54, _⟩ => ⟨S96x9, .f32⟩
  | .local _ .vmem, ⟨55, _⟩ => ⟨S1x96x24, .f32⟩
  | .local _ .vmem, ⟨56, _⟩ => ⟨S1x96x24, .f32⟩
  | .local _ .vmem, ⟨57, _⟩ => ⟨S96x96, .bf16⟩
  | .local _ .vmem, ⟨58, _⟩ => ⟨S1x1, .f32⟩
  | .local _ .vmem, ⟨59, _⟩ => ⟨S1x96x6144, .f32⟩
  | .local _ .vmem, ⟨60, _⟩ => ⟨S1x96x6144, .f32⟩
  | _, _ => ⟨S2x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg2_0 : Ref sig .tc := ⟨.vmem, 45, rfl⟩
abbrev cc2_stg2_1 : Ref sig .tc := ⟨.vmem, 46, rfl⟩
abbrev cc3_stg0_0 : Ref sig .tc := ⟨.vmem, 47, rfl⟩
abbrev cc3_stg0_1 : Ref sig .tc := ⟨.vmem, 48, rfl⟩
abbrev cc3_stg1_0 : Ref sig .tc := ⟨.vmem, 49, rfl⟩
abbrev cc3_stg1_1 : Ref sig .tc := ⟨.vmem, 50, rfl⟩
abbrev cc3_stg2_0 : Ref sig .tc := ⟨.vmem, 51, rfl⟩
abbrev cc3_stg2_1 : Ref sig .tc := ⟨.vmem, 52, rfl⟩
abbrev cc3_stg3_0 : Ref sig .tc := ⟨.vmem, 53, rfl⟩
abbrev cc3_stg4_0 : Ref sig .tc := ⟨.vmem, 54, rfl⟩
abbrev cc3_stg5_0 : Ref sig .tc := ⟨.vmem, 55, rfl⟩
abbrev cc3_stg5_1 : Ref sig .tc := ⟨.vmem, 56, rfl⟩
abbrev cc3_stg6_0 : Ref sig .tc := ⟨.vmem, 57, rfl⟩
abbrev cc3_stg7_0 : Ref sig .tc := ⟨.vmem, 58, rfl⟩
abbrev cc3_stg8_0 : Ref sig .tc := ⟨.vmem, 59, rfl⟩
abbrev cc3_stg8_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc2_sem0_0 : DmaSem sig := 42
abbrev cc2_sem0_1 : DmaSem sig := 43
abbrev cc2_sem1_0 : DmaSem sig := 44
abbrev cc2_sem2_0 : DmaSem sig := 45
abbrev cc2_sem2_1 : DmaSem sig := 46
abbrev cc3_sem0_0 : DmaSem sig := 47
abbrev cc3_sem0_1 : DmaSem sig := 48
abbrev cc3_sem1_0 : DmaSem sig := 49
abbrev cc3_sem1_1 : DmaSem sig := 50
abbrev cc3_sem2_0 : DmaSem sig := 51
abbrev cc3_sem2_1 : DmaSem sig := 52
abbrev cc3_sem3_0 : DmaSem sig := 53
abbrev cc3_sem4_0 : DmaSem sig := 54
abbrev cc3_sem5_0 : DmaSem sig := 55
abbrev cc3_sem5_1 : DmaSem sig := 56
abbrev cc3_sem6_0 : DmaSem sig := 57
abbrev cc3_sem7_0 : DmaSem sig := 58
abbrev cc3_sem8_0 : DmaSem sig := 59
abbrev cc3_sem8_1 : DmaSem sig := 60

abbrev nD : Nat := 1
abbrev τ : Topo := Topo.v7x

variable {F : FTy → Type} [FloatOps F]

abbrev grid0 : Pipeline.Grid := ⟨2, ![2, 24], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c383_i32 : BitVec 32 := 383#32
  let v2 : BitVec 32 := Scalar.minsi v1 c383_i32
  let c0_i32 : BitVec 32 := 0#32
  let c0_i32_1 : BitVec 32 := 0#32
  ![arg0.toNat, c0_i32.toNat, v2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c383_i32 : BitVec 32 := 383#32
  let v2 : BitVec 32 := Scalar.minsi v1 c383_i32
  let c0_i32 : BitVec 32 := 0#32
  let c0_i32_1 : BitVec 32 := 0#32
  ![arg0.toNat, c0_i32.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S96x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S96x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S96x96 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S96x9 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x96x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x96x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨2, ![2, 24], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c383_i32 : BitVec 32 := 383#32
  let v2 : BitVec 32 := Scalar.minsi v1 c383_i32
  let c0_i32 : BitVec 32 := 0#32
  let c0_i32_1 : BitVec 32 := 0#32
  ![arg0.toNat, c0_i32.toNat, v2.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc1_transform_5 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c383_i32 : BitVec 32 := 383#32
  let v2 : BitVec 32 := Scalar.minsi v1 c383_i32
  let c0_i32 : BitVec 32 := 0#32
  let c0_i32_1 : BitVec 32 := 0#32
  ![arg0.toNat, c0_i32.toNat, v2.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x96x6144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x96x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x96x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x96x6144 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x96x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x96x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S96x96 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S96x9 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S96x96 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S96x9 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x96x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x96x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x96x24 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x96x24 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x96x24 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 24], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc3_transform_2 (i : grid3.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c383_i32 : BitVec 32 := 383#32
  let v2 : BitVec 32 := Scalar.minsi v1 c383_i32
  let c0_i32 : BitVec 32 := 0#32
  let c0_i32_1 : BitVec 32 := 0#32
  ![arg0.toNat, c0_i32.toNat, v2.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x96x6144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x96x384 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x96x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S96x96 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S96x9 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x96x24 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 1 → Memref sig .tc .vmem S96x96 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S1x96x6144 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]
-- ==== KernelIdeal.lean ====
variable {F : FTy → Type} [FloatOps F] [Named F]
def κ : String → Option EReal := fun
  | "big" => some ⊤
  | _ => none
-- ==== ReferenceIdeal.lean ====
abbrev S2x96x384x384 : Shape := ⟨4, ![2, 96, 384, 384]⟩
abbrev S96x96x1x1 : Shape := ⟨4, ![96, 96, 1, 1]⟩
abbrev S96x1x3x3 : Shape := ⟨4, ![96, 1, 3, 3]⟩
abbrev S192x96x1x1 : Shape := ⟨4, ![192, 96, 1, 1]⟩
abbrev S192x1x3x3 : Shape := ⟨4, ![192, 1, 3, 3]⟩
abbrev S4x1x1 : Shape := ⟨3, ![4, 1, 1]⟩
abbrev S1 : Shape := ⟨1, ![1]⟩
abbrev S96x96 : Shape := ⟨2, ![96, 96]⟩
abbrev S2x384x384x96 : Shape := ⟨4, ![2, 384, 384, 96]⟩
abbrev S_ : Shape := ⟨0, ![]⟩
abbrev S2x96x386x386 : Shape := ⟨4, ![2, 96, 386, 386]⟩
abbrev S96x1x1x1 : Shape := ⟨4, ![96, 1, 1, 1]⟩
abbrev S96 : Shape := ⟨1, ![96]⟩
abbrev S1x96x1x1 : Shape := ⟨4, ![1, 96, 1, 1]⟩
abbrev S192x96 : Shape := ⟨2, ![192, 96]⟩
abbrev S2x384x384x192 : Shape := ⟨4, ![2, 384, 384, 192]⟩
abbrev S2x192x384x384 : Shape := ⟨4, ![2, 192, 384, 384]⟩
abbrev S2x192x386x386 : Shape := ⟨4, ![2, 192, 386, 386]⟩
abbrev S192x1x1x1 : Shape := ⟨4, ![192, 1, 1, 1]⟩
abbrev S192 : Shape := ⟨1, ![192]⟩
abbrev S1x192x1x1 : Shape := ⟨4, ![1, 192, 1, 1]⟩
abbrev S2x4x24x147456 : Shape := ⟨4, ![2, 4, 24, 147456]⟩
abbrev S2x4x24 : Shape := ⟨3, ![2, 4, 24]⟩
abbrev S2x4x24x1 : Shape := ⟨4, ![2, 4, 24, 1]⟩
abbrev S2x4x24x24 : Shape := ⟨4, ![2, 4, 24, 24]⟩
abbrev S1x4x1x1 : Shape := ⟨4, ![1, 4, 1, 1]⟩
abbrev S2x4x24x21 : Shape := ⟨4, ![2, 4, 24, 21]⟩
abbrev S2x4x24x21x1 : Shape := ⟨5, ![2, 4, 24, 21, 1]⟩
abbrev S1x1x1x1x24 : Shape := ⟨5, ![1, 1, 1, 1, 24]⟩
abbrev S2x4x24x21x24 : Shape := ⟨5, ![2, 4, 24, 21, 24]⟩
abbrev S1x1x1x1 : Shape := ⟨4, ![1, 1, 1, 1]⟩

abbrev nBuf : Space → Nat
  | .hbm => 216
  | .vmem => 0
  | .smem => 0
  | _ => 0

abbrev hbmTy0_0 (i : Nat) : BufTy := match i % 128 with
  | 0 => ⟨S2x96x384x384, .f32⟩
  | 1 => ⟨S2x96x384x384, .f32⟩
  | 2 => ⟨S96x96x1x1, .f32⟩
  | 3 => ⟨S96x1x3x3, .f32⟩
  | 4 => ⟨S192x96x1x1, .f32⟩
  | 5 => ⟨S192x1x3x3, .f32⟩
  | 6 => ⟨S96x96x1x1, .f32⟩
  | 7 => ⟨S4x1x1, .f32⟩
  | 8 => ⟨S1, .f32⟩
  | 9 => ⟨S96x96, .f32⟩
  | 10 => ⟨S2x384x384x96, .f32⟩
  | 11 => ⟨S2x96x384x384, .f32⟩
  | 12 => ⟨S_, .i32⟩
  | 13 => ⟨S_, .f32⟩
  | 14 => ⟨S2x96x386x386, .f32⟩
  | 15 => ⟨S_, .f32⟩
  | 16 => ⟨S2x96x384x384, .f32⟩
  | 17 => ⟨S96x1x1x1, .f32⟩
  | 18 => ⟨S96, .f32⟩
  | 19 => ⟨S1x96x1x1, .f32⟩
  | 20 => ⟨S2x96x384x384, .f32⟩
  | 21 => ⟨S2x96x384x384, .f32⟩
  | 22 => ⟨S2x96x384x384, .f32⟩
  | 23 => ⟨S2x96x384x384, .f32⟩
  | 24 => ⟨S96x1x1x1, .f32⟩
  | 25 => ⟨S96, .f32⟩
  | 26 => ⟨S1x96x1x1, .f32⟩
  | 27 => ⟨S2x96x384x384, .f32⟩
  | 28 => ⟨S2x96x384x384, .f32⟩
  | 29 => ⟨S2x96x384x384, .f32⟩
  | 30 => ⟨S2x96x384x384, .f32⟩
  | 31 => ⟨S96x1x1x1, .f32⟩
  | 32 => ⟨S96, .f32⟩
  | 33 => ⟨S1x96x1x1, .f32⟩
  | 34 => ⟨S2x96x384x384, .f32⟩
  | 35 => ⟨S2x96x384x384, .f32⟩
  | 36 => ⟨S2x96x384x384, .f32⟩
  | 37 => ⟨S2x96x384x384, .f32⟩
  | 38 => ⟨S96x1x1x1, .f32⟩
  | 39 => ⟨S96, .f32⟩
  | 40 => ⟨S1x96x1x1, .f32⟩
  | 41 => ⟨S2x96x384x384, .f32⟩
  | 42 => ⟨S2x96x384x384, .f32⟩
  | 43 => ⟨S2x96x384x384, .f32⟩
  | 44 => ⟨S2x96x384x384, .f32⟩
  | 45 => ⟨S96x1x1x1, .f32⟩
  | 46 => ⟨S96, .f32⟩
  | 47 => ⟨S1x96x1x1, .f32⟩
  | 48 => ⟨S2x96x384x384, .f32⟩
  | 49 => ⟨S2x96x384x384, .f32⟩
  | 50 => ⟨S2x96x384x384, .f32⟩
  | 51 => ⟨S2x96x384x384, .f32⟩
  | 52 => ⟨S96x1x1x1, .f32⟩
  | 53 => ⟨S96, .f32⟩
  | 54 => ⟨S1x96x1x1, .f32⟩
  | 55 => ⟨S2x96x384x384, .f32⟩
  | 56 => ⟨S2x96x384x384, .f32⟩
  | 57 => ⟨S2x96x384x384, .f32⟩
  | 58 => ⟨S2x96x384x384, .f32⟩
  | 59 => ⟨S96x1x1x1, .f32⟩
  | 60 => ⟨S96, .f32⟩
  | 61 => ⟨S1x96x1x1, .f32⟩
  | 62 => ⟨S2x96x384x384, .f32⟩
  | 63 => ⟨S2x96x384x384, .f32⟩
  | 64 => ⟨S2x96x384x384, .f32⟩
  | 65 => ⟨S2x96x384x384, .f32⟩
  | 66 => ⟨S96x1x1x1, .f32⟩
  | 67 => ⟨S96, .f32⟩
  | 68 => ⟨S1x96x1x1, .f32⟩
  | 69 => ⟨S2x96x384x384, .f32⟩
  | 70 => ⟨S2x96x384x384, .f32⟩
  | 71 => ⟨S2x96x384x384, .f32⟩
  | 72 => ⟨S2x96x384x384, .f32⟩
  | 73 => ⟨S96x1x1x1, .f32⟩
  | 74 => ⟨S96, .f32⟩
  | 75 => ⟨S1x96x1x1, .f32⟩
  | 76 => ⟨S2x96x384x384, .f32⟩
  | 77 => ⟨S2x96x384x384, .f32⟩
  | 78 => ⟨S2x96x384x384, .f32⟩
  | 79 => ⟨S2x96x384x384, .f32⟩
  | 80 => ⟨S192x96, .f32⟩
  | 81 => ⟨S2x384x384x192, .f32⟩
  | 82 => ⟨S2x192x384x384, .f32⟩
  | 83 => ⟨S_, .i32⟩
  | 84 => ⟨S_, .f32⟩
  | 85 => ⟨S2x192x386x386, .f32⟩
  | 86 => ⟨S_, .f32⟩
  | 87 => ⟨S2x192x384x384, .f32⟩
  | 88 => ⟨S192x1x1x1, .f32⟩
  | 89 => ⟨S192, .f32⟩
  | 90 => ⟨S1x192x1x1, .f32⟩
  | 91 => ⟨S2x192x384x384, .f32⟩
  | 92 => ⟨S2x192x384x384, .f32⟩
  | 93 => ⟨S2x192x384x384, .f32⟩
  | 94 => ⟨S2x192x384x384, .f32⟩
  | 95 => ⟨S192x1x1x1, .f32⟩
  | 96 => ⟨S192, .f32⟩
  | 97 => ⟨S1x192x1x1, .f32⟩
  | 98 => ⟨S2x192x384x384, .f32⟩
  | 99 => ⟨S2x192x384x384, .f32⟩
  | 100 => ⟨S2x192x384x384, .f32⟩
  | 101 => ⟨S2x192x384x384, .f32⟩
  | 102 => ⟨S192x1x1x1, .f32⟩
  | 103 => ⟨S192, .f32⟩
  | 104 => ⟨S1x192x1x1, .f32⟩
  | 105 => ⟨S2x192x384x384, .f32⟩
  | 106 => ⟨S2x192x384x384, .f32⟩
  | 107 => ⟨S2x192x384x384, .f32⟩
  | 108 => ⟨S2x192x384x384, .f32⟩
  | 109 => ⟨S192x1x1x1, .f32⟩
  | 110 => ⟨S192, .f32⟩
  | 111 => ⟨S1x192x1x1, .f32⟩
  | 112 => ⟨S2x192x384x384, .f32⟩
  | 113 => ⟨S2x192x384x384, .f32⟩
  | 114 => ⟨S2x192x384x384, .f32⟩
  | 115 => ⟨S2x192x384x384, .f32⟩
  | 116 => ⟨S192x1x1x1, .f32⟩
  | 117 => ⟨S192, .f32⟩
  | 118 => ⟨S1x192x1x1, .f32⟩
  | 119 => ⟨S2x192x384x384, .f32⟩
  | 120 => ⟨S2x192x384x384, .f32⟩
  | 121 => ⟨S2x192x384x384, .f32⟩
  | 122 => ⟨S2x192x384x384, .f32⟩
  | 123 => ⟨S192x1x1x1, .f32⟩
  | 124 => ⟨S192, .f32⟩
  | 125 => ⟨S1x192x1x1, .f32⟩
  | 126 => ⟨S2x192x384x384, .f32⟩
  | 127 => ⟨S2x192x384x384, .f32⟩
  | _ => ⟨S2x96x384x384, .f32⟩

abbrev hbmTy0_1 (i : Nat) : BufTy := match i % 128 with
  | 0 => ⟨S2x192x384x384, .f32⟩
  | 1 => ⟨S2x192x384x384, .f32⟩
  | 2 => ⟨S192x1x1x1, .f32⟩
  | 3 => ⟨S192, .f32⟩
  | 4 => ⟨S1x192x1x1, .f32⟩
  | 5 => ⟨S2x192x384x384, .f32⟩
  | 6 => ⟨S2x192x384x384, .f32⟩
  | 7 => ⟨S2x192x384x384, .f32⟩
  | 8 => ⟨S2x192x384x384, .f32⟩
  | 9 => ⟨S192x1x1x1, .f32⟩
  | 10 => ⟨S192, .f32⟩
  | 11 => ⟨S1x192x1x1, .f32⟩
  | 12 => ⟨S2x192x384x384, .f32⟩
  | 13 => ⟨S2x192x384x384, .f32⟩
  | 14 => ⟨S2x192x384x384, .f32⟩
  | 15 => ⟨S2x192x384x384, .f32⟩
  | 16 => ⟨S192x1x1x1, .f32⟩
  | 17 => ⟨S192, .f32⟩
  | 18 => ⟨S1x192x1x1, .f32⟩
  | 19 => ⟨S2x192x384x384, .f32⟩
  | 20 => ⟨S2x192x384x384, .f32⟩
  | 21 => ⟨S2x192x384x384, .f32⟩
  | 22 => ⟨S2x192x384x384, .f32⟩
  | 23 => ⟨S2x96x384x384, .f32⟩
  | 24 => ⟨S2x96x384x384, .f32⟩
  | 25 => ⟨S2x4x24x147456, .f32⟩
  | 26 => ⟨S2x4x24x147456, .f32⟩
  | 27 => ⟨S2x4x24x147456, .f32⟩
  | 28 => ⟨S2x4x24x147456, .f32⟩
  | 29 => ⟨S_, .f32⟩
  | 30 => ⟨S2x4x24, .f32⟩
  | 31 => ⟨S2x4x24x1, .f32⟩
  | 32 => ⟨S2x4x24x1, .f32⟩
  | 33 => ⟨S_, .f32⟩
  | 34 => ⟨S_, .f32⟩
  | 35 => ⟨S2x4x24x1, .f32⟩
  | 36 => ⟨S2x4x24x1, .f32⟩
  | 37 => ⟨S2x4x24x147456, .f32⟩
  | 38 => ⟨S2x4x24x147456, .f32⟩
  | 39 => ⟨S2x4x24x147456, .f32⟩
  | 40 => ⟨S_, .f32⟩
  | 41 => ⟨S2x4x24, .f32⟩
  | 42 => ⟨S2x4x24x1, .f32⟩
  | 43 => ⟨S2x4x24x1, .f32⟩
  | 44 => ⟨S_, .f32⟩
  | 45 => ⟨S_, .f32⟩
  | 46 => ⟨S2x4x24x1, .f32⟩
  | 47 => ⟨S2x4x24x1, .f32⟩
  | 48 => ⟨S2x4x24x147456, .f32⟩
  | 49 => ⟨S2x4x24x147456, .f32⟩
  | 50 => ⟨S2x4x24x24, .f32⟩
  | 51 => ⟨S1x4x1x1, .f32⟩
  | 52 => ⟨S2x4x24x24, .f32⟩
  | 53 => ⟨S2x4x24x24, .f32⟩
  | 54 => ⟨S2x4x24x21, .f32⟩
  | 55 => ⟨S2x4x24x21, .i32⟩
  | 56 => ⟨S2x4x24x21x1, .i32⟩
  | 57 => ⟨S1x1x1x1x24, .i32⟩
  | 58 => ⟨S2x4x24x21x24, .i32⟩
  | 59 => ⟨S2x4x24x21x24, .i32⟩
  | 60 => ⟨S2x4x24x21x24, .i1⟩
  | 61 => ⟨S_, .i1⟩
  | 62 => ⟨S2x4x24x24, .i1⟩
  | 63 => ⟨S_, .f32⟩
  | 64 => ⟨S2x4x24x24, .f32⟩
  | 65 => ⟨S2x4x24x24, .f32⟩
  | 66 => ⟨S_, .f32⟩
  | 67 => ⟨S2x4x24, .f32⟩
  | 68 => ⟨S_, .f32⟩
  | 69 => ⟨S2x4x24, .f32⟩
  | 70 => ⟨S2x4x24, .f32⟩
  | 71 => ⟨S2x4x24x1, .f32⟩
  | 72 => ⟨S2x4x24x24, .f32⟩
  | 73 => ⟨S2x4x24x24, .f32⟩
  | 74 => ⟨S2x4x24x24, .f32⟩
  | 75 => ⟨S_, .f32⟩
  | 76 => ⟨S2x4x24, .f32⟩
  | 77 => ⟨S2x4x24x1, .f32⟩
  | 78 => ⟨S2x4x24x24, .f32⟩
  | 79 => ⟨S2x4x24x24, .f32⟩
  | 80 => ⟨S2x4x24x147456, .f32⟩
  | 81 => ⟨S1x1x1x1, .f32⟩
  | 82 => ⟨S2x4x24x147456, .f32⟩
  | 83 => ⟨S2x4x24x147456, .f32⟩
  | 84 => ⟨S2x96x384x384, .f32⟩
  | 85 => ⟨S96x96, .f32⟩
  | 86 => ⟨S2x384x384x96, .f32⟩
  | 87 => ⟨S2x96x384x384, .f32⟩
  | _ => ⟨S2x96x384x384, .f32⟩

abbrev hbmTy (i : Nat) : BufTy := match i / 128 with
  | 0 => hbmTy0_0 i
  | 1 => hbmTy0_1 i
  | _ => ⟨S2x96x384x384, .f32⟩

abbrev bufTy : (tb : Table) → Fin (tcTables nBuf tb) → BufTy
  | .hbm, ⟨i, _⟩ => hbmTy i
  | _, _ => ⟨S2x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_c_0 : Ref sig .tc := ⟨.hbm, 83, rfl⟩
abbrev main_call1_v0 : Ref sig .tc := ⟨.hbm, 84, rfl⟩
abbrev main_v71 : Ref sig .tc := ⟨.hbm, 85, rfl⟩
abbrev main_cst_1 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_call2_v0 : Ref sig .tc := ⟨.hbm, 156, rfl⟩
abbrev main_call2_cst : Ref sig .tc := ⟨.hbm, 157, rfl⟩
abbrev main_call2_v1 : Ref sig .tc := ⟨.hbm, 158, rfl⟩
abbrev main_call2_v2 : Ref sig .tc := ⟨.hbm, 159, rfl⟩
abbrev main_v141 : Ref sig .tc := ⟨.hbm, 160, rfl⟩
abbrev main_cst_2 : Ref sig .tc := ⟨.hbm, 161, rfl⟩
abbrev main_call3_v0 : Ref sig .tc := ⟨.hbm, 162, rfl⟩
abbrev main_call3_v1 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_call4_v0 : Ref sig .tc := ⟨.hbm, 167, rfl⟩
abbrev main_call4_cst : Ref sig .tc := ⟨.hbm, 168, rfl⟩
abbrev main_call4_v1 : Ref sig .tc := ⟨.hbm, 169, rfl⟩
abbrev main_call4_v2 : Ref sig .tc := ⟨.hbm, 170, rfl⟩
abbrev main_v145 : Ref sig .tc := ⟨.hbm, 171, rfl⟩
abbrev main_cst_3 : Ref sig .tc := ⟨.hbm, 172, rfl⟩
abbrev main_call5_v0 : Ref sig .tc := ⟨.hbm, 173, rfl⟩
abbrev main_call5_v1 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_values : Ref sig .tc := ⟨.hbm, 182, rfl⟩
abbrev main_indices : Ref sig .tc := ⟨.hbm, 183, rfl⟩
abbrev main_call6_v0 : Ref sig .tc := ⟨.hbm, 184, rfl⟩
abbrev main_call6_v1 : Ref sig .tc := ⟨.hbm, 185, rfl⟩
abbrev main_call6_v2 : Ref sig .tc := ⟨.hbm, 186, rfl⟩
abbrev main_call6_v3 : Ref sig .tc := ⟨.hbm, 187, rfl⟩
abbrev main_v153 : Ref sig .tc := ⟨.hbm, 188, rfl⟩
abbrev main_c_4 : Ref sig .tc := ⟨.hbm, 189, rfl⟩
abbrev main_v154 : Ref sig .tc := ⟨.hbm, 190, rfl⟩
abbrev main_cst_5 : Ref sig .tc := ⟨.hbm, 191, rfl⟩
abbrev main_v155 : Ref sig .tc := ⟨.hbm, 192, rfl⟩
abbrev main_v156 : Ref sig .tc := ⟨.hbm, 193, rfl⟩
abbrev main_cst_6 : Ref sig .tc := ⟨.hbm, 194, rfl⟩
abbrev main_v157 : Ref sig .tc := ⟨.hbm, 195, rfl⟩
abbrev main_cst_7 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_cst_8 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩

abbrev nD : Nat := 1
abbrev τ : Topo := Topo.v7x

variable {F : FTy → Type} [FloatOps F]
-- ==== Proof.Conv.lean ====
/-
  The depthwise 3×3 convolution of a 1×1 convolution as the kernel computes it on a block of 16 image rows, read at
  an element: nine products in the order of the taps, a tap outside the image being zero.
-/
module

public import proofs.«01_k».proof.Proof.Gen.KernelIdeal.Skeleton
public import Idealize.ShloMosaic.Lib.Pipeline.ValueKit

@[expose] public section

set_option maxRecDepth 16384

noncomputable section

namespace Cert.ChannelAttn

open Idealize.ShloMosaic Idealize.ShloMosaic.TcCoe Cert.KernelIdeal Cert.KernelIdeal.Gen

/-- The value at `(h + di - 1, w + dj - 1)` of an image, zero outside it. -/
def tap (Y : Fin 384 → Fin 384 → EReal) (h w di dj : ℕ) : EReal :=
  if hh : (1 ≤ h + di ∧ h + di ≤ 384) ∧ 1 ≤ w + dj ∧ w + dj ≤ 384 then
    Y ⟨h + di - 1, by omega⟩ ⟨w + dj - 1, by omega⟩
  else 0

/-- The depthwise 3×3 convolution of one channel at a pixel, summed tap by tap. -/
def conv3 (D : Fin 9 → EReal) (Y : Fin 384 → Fin 384 → EReal) (h w : ℕ) : EReal :=
  0 + D 0 * tap Y h w 0 0 + D 1 * tap Y h w 0 1 + D 2 * tap Y h w 0 2
    + D 3 * tap Y h w 1 0 + D 4 * tap Y h w 1 1 + D 5 * tap Y h w 1 2
    + D 6 * tap Y h w 2 0 + D 7 * tap Y h w 2 1 + D 8 * tap Y h w 2 2

/-- The row length 384 as the kernel writes it. -/
abbrev rowLen : BitVec 32 := Scalar.select (Scalar.cmpi .eq 384#32 0#32) 1#32 384#32

/-- The block's rows with a row of halo above and below, after the 1×1 convolution, the halo rows multiplied by `st` and `sb`. -/
def extM (st sb : EReal) (xc : FVec Ideal S1x96x6144 .f32) (xt xb : FVec Ideal S1x96x384 .f32) (w : FVec Ideal S96x96 .bf16) :
    FVec Ideal S96x6912 .f32 :=
  concatenate S96x6912 1
    [⟨S96x384, mulf (matmul dot_S96x96_S96x384_S96x384_1_0_0_1_n_n none (shapeCast S96x96 w shapeCasts_S96x96_S96x96)
        (truncf .bf16 (shapeCast S96x384 xt shapeCasts_S1x96x384_S96x384) bitsLt_bf16_f32) (constant S96x384 .f32 0x00000000#32))
        (broadcast S96x384 st)⟩,
     ⟨S96x6144, matmul dot_S96x96_S96x6144_S96x6144_1_0_0_1_n_n none (shapeCast S96x96 w shapeCasts_S96x96_S96x96)
        (truncf .bf16 (shapeCast S96x6144 xc shapeCasts_S1x96x6144_S96x6144) bitsLt_bf16_f32) (constant S96x6144 .f32 0x00000000#32)⟩,
     ⟨S96x384, mulf (matmul dot_S96x96_S96x384_S96x384_1_0_0_1_n_n none (shapeCast S96x96 w shapeCasts_S96x96_S96x96)
        (truncf .bf16 (shapeCast S96x384 xb shapeCasts_S1x96x384_S96x384) bitsLt_bf16_f32) (constant S96x384 .f32 0x00000000#32))
        (broadcast S96x384 sb)⟩]
    concatenates_S96x384_S96x6144_S96x384_S96x6912_d1

/-- The extended block of the block numbered `a`: a halo row outside the image is multiplied by zero. -/
def extV (a : BitVec 32) (xc : FVec Ideal S1x96x6144 .f32) (xt xb : FVec Ideal S1x96x384 .f32) (w : FVec Ideal S96x96 .bf16) :
    FVec Ideal S96x6912 .f32 :=
  extM (Scalar.sitofp (F := Ideal) .f32 (Scalar.extui (Scalar.cmpi .sgt a 0#32) : BitVec 32)) (Scalar.sitofp (F := Ideal) .f32 (Scalar.extui (Scalar.cmpi .slt a 23#32) : BitVec 32))
    xc xt xb w

/-- The extended block shifted right by one pixel, the first pixel of each row cleared. -/
def leftV (v : FVec Ideal S96x6912 .f32) : FVec Ideal S96x6912 .f32 := k0_pay7 v k0_pay4 rowLen k0_pay5 0#32

/-- The extended block shifted left by one pixel, the last pixel of each row cleared. -/
def rightV (v : FVec Ideal S96x6912 .f32) : FVec Ideal S96x6912 .f32 := k0_pay8 v k0_pay4 rowLen k0_pay5 0#32

/-- The convolution of the extended block `v`. -/
def tapsV (d : FVec Ideal S96x9 .f32) (v : FVec Ideal S96x6912 .f32) : FVec Ideal S96x6144 .f32 :=
  k0_pay11 (k0_pay2 d) v (leftV v) (rightV v) (k0_pay9 (k0_pay2 d) v k0_pay4 rowLen k0_pay5 0#32) (k0_pay10 (k0_pay2 d))

/-- The position's column word is the remainder of the position by the row length. -/
theorem rem_word (e : Fin 6912) : k0_pay6 rowLen k0_pay5 0#32 (ix2 0 e) = BitVec.ofNat 32 (e.val % 384) := by
  pointwise [k0_pay6, k0_pay5]
  revert e
  decide +kernel

/-- The mask word of "the column is not `n`", as a number. -/
theorem ne_mask (r n : ℕ) (hr : r < 384) (hn : n < 384) :
    FloatOps.sitofp (F := Ideal) .f32 (BitVec.setWidth 32 (IntOp.cmpi .ne (BitVec.ofNat 32 r) (BitVec.ofNat 32 n))) = if r = n then 0 else 1 := by
  have h : (BitVec.ofNat 32 r = BitVec.ofNat 32 n) ↔ r = n := by
    rw [← BitVec.toNat_inj, BitVec.toNat_ofNat, BitVec.toNat_ofNat, Nat.mod_eq_of_lt (by omega), Nat.mod_eq_of_lt (by omega)]
  change ((((BitVec.setWidth 32 (IntOp.cmpi .ne (BitVec.ofNat 32 r) (BitVec.ofNat 32 n))).toInt : ℤ) : ℝ) : EReal) = _
  by_cases hrn : r = n
  · subst hrn
    simp [IntOp.cmpi]
  · have : BitVec.ofNat 32 r ≠ BitVec.ofNat 32 n := fun h' => hrn (h.mp h')
    have hb : (BitVec.ofNat 32 r != BitVec.ofNat 32 n) = true := by simpa using this
    simp only [IntOp.cmpi, hb, if_neg hrn]
    rw [show (BitVec.setWidth 32 (BitVec.ofBool true)).toInt = 1 by decide]
    norm_num

/-- The mask of "the block is not the first". -/
theorem first_mask (t : ℕ) (ht : t < 24) :
    (((Scalar.extui (Scalar.cmpi .sgt (BitVec.ofNat 32 t) 0#32) : BitVec 32).toInt : ℝ) : EReal) = if 0 < t then 1 else 0 := by
  have h : ∀ t : Fin 24, (Scalar.extui (Scalar.cmpi .sgt (BitVec.ofNat 32 t.val) 0#32) : BitVec 32).toInt = if 0 < t.val then 1 else 0 := by decide
  rw [h ⟨t, ht⟩]
  by_cases h0 : 0 < t <;> simp [h0]

/-- The mask of "the block is not the last". -/
theorem last_mask (t : ℕ) (ht : t < 24) :
    (((Scalar.extui (Scalar.cmpi .slt (BitVec.ofNat 32 t) 23#32) : BitVec 32).toInt : ℝ) : EReal) = if t < 23 then 1 else 0 := by
  have h : ∀ t : Fin 24, (Scalar.extui (Scalar.cmpi .slt (BitVec.ofNat 32 t.val) 23#32) : BitVec 32).toInt = if t.val < 23 then 1 else 0 := by decide
  rw [h ⟨t, ht⟩]
  by_cases h0 : t < 23 <;> simp [h0]

/-- An image at equal coordinates. -/
theorem at_eq {α : Type} (X : Fin 384 → Fin 384 → α) {h h' w w' : Fin 384} (hh : h.val = h'.val) (hw : w.val = w'.val) : X h w = X h' w' := by
  rw [Fin.ext hh, Fin.ext hw]

/-- The 1×1 convolution at a pixel. -/
def pix (W : Fin 96 → Fin 96 → EReal) (X : Fin 96 → Fin 384 → Fin 384 → EReal) (o : Fin 96) (h w : Fin 384) : EReal :=
  ∑ c, W o c * X c h w

/-- What the kernel's block `t` of 16 rows and its two halo rows hold of an image `X`. -/
structure Holds (t : ℕ) (X : Fin 96 → Fin 384 → Fin 384 → EReal) (xc : FVec Ideal S1x96x6144 .f32) (xt xb : FVec Ideal S1x96x384 .f32) : Prop where
  lt : t < 24
  mid : ∀ (c : Fin 96) (f : Fin 6144), xc (ix3 0 c f) = X c ⟨t * 16 + f.val / 384, by omega⟩ ⟨f.val % 384, by omega⟩
  top : 0 < t → ∀ (c : Fin 96) (r : Fin 384), xt (ix3 0 c r) = X c ⟨t * 16 - 1, by omega⟩ r
  bot : (h : t < 23) → ∀ (c : Fin 96) (r : Fin 384), xb (ix3 0 c r) = X c ⟨t * 16 + 16, by omega⟩ r

/-- The extended block at an element. -/
theorem extM_read (st sb : EReal) (xc : FVec Ideal S1x96x6144 .f32) (xt xb : FVec Ideal S1x96x384 .f32) (w : FVec Ideal S96x96 .bf16)
    (o : Fin 96) (e : Fin 6912) :
    extM st sb xc xt xb w (ix2 o e) =
      if h : e.val < 384 then (∑ x, w (ix2 o x) * xt (ix3 0 x ⟨e.val, h⟩)) * st
      else if h2 : e.val - 384 < 6144 then ∑ x, w (ix2 o x) * xc (ix3 0 x ⟨e.val - 384, h2⟩)
      else (∑ x, w (ix2 o x) * xb (ix3 0 x ⟨e.val - 384 - 6144, by omega⟩)) * sb := by
  pointwise [extM]

/-- The extended block holds the 1×1 convolution of the image rows around the block, and zero outside the image. -/
theorem ext_read {t : ℕ} {X : Fin 96 → Fin 384 → Fin 384 → EReal} {xc : FVec Ideal S1x96x6144 .f32} {xt xb : FVec Ideal S1x96x384 .f32}
    (H : Holds t X xc xt xb) (w : FVec Ideal S96x96 .bf16) (o : Fin 96) (e : Fin 6912) :
    extV (BitVec.ofNat 32 t) xc xt xb w (ix2 o e) =
      if h : 1 ≤ t * 16 + e.val / 384 ∧ t * 16 + e.val / 384 ≤ 384 then
        pix (fun o c => w (ix2 o c)) X o ⟨t * 16 + e.val / 384 - 1, by omega⟩ ⟨e.val % 384, by omega⟩
      else 0 := by
  have ht := H.lt
  have he := e.isLt
  unfold extV
  rw [extM_read, Ideal.scalar_sitofp_def, Ideal.scalar_sitofp_def, first_mask t ht, last_mask t ht]
  by_cases h1 : e.val < 384
  · rw [dif_pos h1]
    by_cases h0 : 0 < t
    · rw [if_pos h0, mul_one, dif_pos (by omega)]
      refine Finset.sum_congr rfl fun c _ => ?_
      rw [H.top h0]
      exact congrArg (w (ix2 o c) * ·) (at_eq (X c) (by dsimp only; omega) (by dsimp only; omega))
    · rw [if_neg h0, mul_zero, dif_neg (by omega)]
  · rw [dif_neg h1]
    by_cases h2 : e.val - 384 < 6144
    · rw [dif_pos h2, dif_pos (by omega)]
      refine Finset.sum_congr rfl fun c _ => ?_
      rw [H.mid]
      exact congrArg (w (ix2 o c) * ·) (at_eq (X c) (by dsimp only; omega) (by dsimp only; omega))
    · rw [dif_neg h2]
      by_cases h0 : t < 23
      · rw [if_pos h0, mul_one, dif_pos (by omega)]
        refine Finset.sum_congr rfl fun c _ => ?_
        rw [H.bot h0]
        exact congrArg (w (ix2 o c) * ·) (at_eq (X c) (by dsimp only; omega) (by dsimp only; omega))
      · rw [if_neg h0, mul_zero, dif_neg (by omega)]

/-- The block shifted right, at an element. -/
theorem left_read (v : FVec Ideal S96x6912 .f32) (o : Fin 96) (e : Fin 6912) :
    leftV v (ix2 o e) = if h : e.val % 384 = 0 then 0 else v (ix2 o ⟨e.val - 1, by omega⟩) := by
  have h6 := rem_word e
  pointwise [leftV, k0_pay7, k0_pay4]
  rw [h6, ne_mask _ 0 (by omega) (by omega)]
  by_cases h : e.val % 384 = 0
  · rw [if_pos h, dif_pos h, mul_zero]
  · rw [if_neg h, dif_neg h, mul_one, dif_neg (by omega)]

/-- The block shifted left, at an element. -/
theorem right_read (v : FVec Ideal S96x6912 .f32) (o : Fin 96) (e : Fin 6912) :
    rightV v (ix2 o e) = if h : e.val % 384 = 383 then 0 else v (ix2 o ⟨e.val + 1, by omega⟩) := by
  have h6 := rem_word e
  pointwise [rightV, k0_pay8, k0_pay4]
  rw [h6, ne_mask _ 383 (by omega) (by omega)]
  by_cases h : e.val % 384 = 383
  · rw [if_pos h, dif_pos h, mul_zero]
  · rw [if_neg h, dif_neg h, mul_one, dif_pos (by omega)]
    congr 2; apply Fin.ext; simp only []; omega

section Taps
variable {t : ℕ} {X : Fin 96 → Fin 384 → Fin 384 → EReal} {xc : FVec Ideal S1x96x6144 .f32} {xt xb : FVec Ideal S1x96x384 .f32}
  (H : Holds t X xc xt xb) (w : FVec Ideal S96x96 .bf16) (o : Fin 96) (f : Fin 6144) (di : ℕ) (hdi : di ≤ 2)
include H hdi

/-- The middle tap of row `di`. -/
theorem tap_mid (e : Fin 6912) (he : e.val = 384 * di + f.val) :
    extV (BitVec.ofNat 32 t) xc xt xb w (ix2 o e) = tap (pix (fun o c => w (ix2 o c)) X o) (t * 16 + f.val / 384) (f.val % 384) di 1 := by
  rw [ext_read H]
  unfold tap
  have := H.lt
  by_cases h : 1 ≤ t * 16 + e.val / 384 ∧ t * 16 + e.val / 384 ≤ 384
  · rw [dif_pos h, dif_pos (by omega)]
    exact at_eq (pix (fun o c => w (ix2 o c)) X o) (by dsimp only; omega) (by dsimp only; omega)
  · rw [dif_neg h, dif_neg (by omega)]

/-- The left tap of row `di`. -/
theorem tap_left (e : Fin 6912) (he : e.val = 384 * di + f.val) :
    leftV (extV (BitVec.ofNat 32 t) xc xt xb w) (ix2 o e)
      = tap (pix (fun o c => w (ix2 o c)) X o) (t * 16 + f.val / 384) (f.val % 384) di 0 := by
  rw [left_read]
  have := H.lt
  by_cases h0 : e.val % 384 = 0
  · rw [dif_pos h0, tap, dif_neg (by omega)]
  · rw [dif_neg h0, ext_read H]
    unfold tap
    by_cases h : 1 ≤ t * 16 + (e.val - 1) / 384 ∧ t * 16 + (e.val - 1) / 384 ≤ 384
    · rw [dif_pos h, dif_pos (by omega)]
      exact at_eq (pix (fun o c => w (ix2 o c)) X o) (by dsimp only; omega) (by dsimp only; omega)
    · rw [dif_neg h, dif_neg (by omega)]

/-- The right tap of row `di`. -/
theorem tap_right (e : Fin 6912) (he : e.val = 384 * di + f.val) :
    rightV (extV (BitVec.ofNat 32 t) xc xt xb w) (ix2 o e)
      = tap (pix (fun o c => w (ix2 o c)) X o) (t * 16 + f.val / 384) (f.val % 384) di 2 := by
  rw [right_read]
  have := H.lt
  by_cases h0 : e.val % 384 = 383
  · rw [dif_pos h0, tap, dif_neg (by omega)]
  · rw [dif_neg h0, ext_read H]
    unfold tap
    by_cases h : 1 ≤ t * 16 + (e.val + 1) / 384 ∧ t * 16 + (e.val + 1) / 384 ≤ 384
    · rw [dif_pos h, dif_pos (by omega)]
      exact at_eq (pix (fun o c => w (ix2 o c)) X o) (by dsimp only; omega) (by dsimp only; omega)
    · rw [dif_neg h, dif_neg (by omega)]

end Taps

/-- The nine products of the convolution at an element, over the extended block and its two shifts. -/
theorem taps_read (d : FVec Ideal S96x9 .f32) (v : FVec Ideal S96x6912 .f32) (o : Fin 96) (f : Fin 6144) :
    tapsV d v (ix2 o f) = 0 + d (ix2 o 0) * leftV v (ix2 o ⟨f.val, by omega⟩) + d (ix2 o 1) * v (ix2 o ⟨f.val, by omega⟩)
      + d (ix2 o 2) * rightV v (ix2 o ⟨f.val, by omega⟩)
      + d (ix2 o 3) * leftV v (ix2 o ⟨384 + f.val, by omega⟩) + d (ix2 o 4) * v (ix2 o ⟨384 + f.val, by omega⟩)
      + d (ix2 o 5) * rightV v (ix2 o ⟨384 + f.val, by omega⟩)
      + d (ix2 o 6) * leftV v (ix2 o ⟨768 + f.val, by omega⟩) + d (ix2 o 7) * v (ix2 o ⟨768 + f.val, by omega⟩)
      + d (ix2 o 8) * rightV v (ix2 o ⟨768 + f.val, by omega⟩) := by
  unfold tapsV k0_pay9
  rw [← leftV, ← rightV]
  pointwise [k0_pay11, k0_pay10, k0_pay2]

/-- The kernel's convolution of block `t` at an element is the convolution of the image at its pixel. -/
theorem conv_read {t : ℕ} {X : Fin 96 → Fin 384 → Fin 384 → EReal} {xc : FVec Ideal S1x96x6144 .f32} {xt xb : FVec Ideal S1x96x384 .f32}
    (H : Holds t X xc xt xb) (w : FVec Ideal S96x96 .bf16) (d : FVec Ideal S96x9 .f32) (o : Fin 96) (f : Fin 6144) :
    tapsV d (extV (BitVec.ofNat 32 t) xc xt xb w) (ix2 o f)
      = conv3 (fun k => d (ix2 o k)) (pix (fun o c => w (ix2 o c)) X o) (t * 16 + f.val / 384) (f.val % 384) := by
  rw [taps_read, conv3, tap_left H w o f 0 (by omega) _ (by simp), tap_left H w o f 1 (by omega) _ (by simp), tap_left H w o f 2 (by omega) _ (by simp),
    tap_mid H w o f 0 (by omega) _ (by simp), tap_mid H w o f 1 (by omega) _ (by simp), tap_mid H w o f 2 (by omega) _ (by simp),
    tap_right H w o f 0 (by omega) _ (by simp), tap_right H w o f 1 (by omega) _ (by simp), tap_right H w o f 2 (by omega) _ (by simp)]

end Cert.ChannelAttn
-- ==== Proof.Parts.lean ====
/-
  The bodies of the kernel's regions, read at an element in terms of the convolutions of a block.
-/
module

public import proofs.«01_k».proof.Proof.Conv

@[expose] public section

set_option maxRecDepth 16384

noncomputable section

namespace Cert.ChannelAttn

open Idealize.ShloMosaic Idealize.ShloMosaic.TcCoe Cert.KernelIdeal Cert.KernelIdeal.Gen

/-- The convolution of a block of 16 rows with its halo rows: the block numbered `t`. -/
def blockConv (t : ℕ) (xc : FVec Ideal S1x96x6144 .f32) (xt xb : FVec Ideal S1x96x384 .f32) (w : FVec Ideal S96x96 .bf16)
    (d : FVec Ideal S96x9 .f32) : FVec Ideal S96x6144 .f32 :=
  tapsV d (extV (BitVec.ofNat 32 t) xc xt xb w)

section
variable (xc : FVec Ideal S1x96x6144 .f32) (xt xb : FVec Ideal S1x96x384 .f32) (w : FVec Ideal S96x96 .bf16) (d : FVec Ideal S96x9 .f32)

/-- Region 0's convolution of the first image. -/
theorem first0 (i : grid0.Coords) :
    k0_pay11 (k0_pay2 d) (k0_pay3 i xc xt xb w) (k0_pay7 (k0_pay3 i xc xt xb w) k0_pay4 rowLen k0_pay5 0#32)
      (k0_pay8 (k0_pay3 i xc xt xb w) k0_pay4 rowLen k0_pay5 0#32)
      (k0_pay9 (k0_pay2 d) (k0_pay3 i xc xt xb w) k0_pay4 rowLen k0_pay5 0#32) (k0_pay10 (k0_pay2 d))
      = blockConv (i 1).val xc xt xb w d := rfl

/-- A column of sums along the rows, added to what was there. -/
def addSq (v : FVec Ideal S96x6144 .f32) (p : FVec Ideal S1x96x1 .f32) : FVec Ideal S1x96x1 .f32 := k0_pay29 v p

/-- The running sum at a channel: what was there and the squares of the block. -/
theorem addSq_read (v : FVec Ideal S96x6144 .f32) (p : FVec Ideal S1x96x1 .f32) (j : S1x96x1.Idx) :
    addSq v p j = p j + ∑ f : Fin 6144, v (ix2 (j 1) f) * v (ix2 (j 1) f) := by
  pointwise [addSq, k0_pay29]

/-- Region 0's sum for the second image. -/
theorem second0 (a : BitVec 32) (p : FVec Ideal S1x96x1 .f32) :
    k0_pay1 (k0_pay26 (k0_pay13 d) (k0_pay19 (k0_pay14 xc w) (k0_pay15 xt w) (k0_pay16 xb w) (k0_pay17 a) (k0_pay18 a))
      (k0_pay22 (k0_pay14 xc w) (k0_pay15 xt w) (k0_pay16 xb w) (k0_pay17 a) (k0_pay18 a))
      (k0_pay23 (k0_pay14 xc w) (k0_pay15 xt w) (k0_pay16 xb w) (k0_pay17 a) (k0_pay18 a))
      (k0_pay24 (k0_pay13 d) (k0_pay14 xc w) (k0_pay15 xt w) (k0_pay16 xb w) (k0_pay17 a) (k0_pay18 a))
      (k0_pay25 (k0_pay13 d) (k0_pay14 xc w) (k0_pay15 xt w) (k0_pay16 xb w) (k0_pay17 a) (k0_pay18 a))) p
      = addSq (tapsV d (extV a xc xt xb w)) p := rfl

/-- A block divided by the clipped norms of its rows. -/
def unit (v : FVec Ideal S96x6144 .f32) (p : FVec Ideal S1x96x1 .f32) : FVec Ideal S96x6144 .bf16 := k1_pay27 v p

/-- A block divided by its norms, at an element. -/
theorem unit_read (v : FVec Ideal S96x6144 .f32) (p : FVec Ideal S1x96x1 .f32) (o : Fin 96) (f : Fin 6144) :
    unit v p (ix2 o f) = Ideal.div (v (ix2 o f)) (max (FloatOps.sqrt (F := Ideal) (φ := .f32) (p (ix3 0 o 0))) (FloatOps.ofBits (F := Ideal) .f32 0x2B8CBCCC#32)) := by
  pointwise [unit, k1_pay27]

/-- Region 1's first operand. -/
theorem first1 (i : grid1.Coords) :
    k1_pay12 (k1_pay3 d) (k1_pay4 i xc xt xb w) (k1_pay8 (k1_pay4 i xc xt xb w) k1_pay5 rowLen k1_pay6 0#32)
      (k1_pay9 (k1_pay4 i xc xt xb w) k1_pay5 rowLen k1_pay6 0#32)
      (k1_pay10 (k1_pay3 d) (k1_pay4 i xc xt xb w) k1_pay5 rowLen k1_pay6 0#32) (k1_pay11 (k1_pay3 d))
      = blockConv (i 1).val xc xt xb w d := rfl

/-- Region 1's second operand. -/
theorem second1 (a : BitVec 32) (p : FVec Ideal S1x96x1 .f32) :
    k1_pay28 (k1_pay14 d) (k1_pay20 (k1_pay15 xc w) (k1_pay16 xt w) (k1_pay17 xb w) (k1_pay18 a) (k1_pay19 a))
      (k1_pay23 (k1_pay15 xc w) (k1_pay16 xt w) (k1_pay17 xb w) (k1_pay18 a) (k1_pay19 a))
      (k1_pay24 (k1_pay15 xc w) (k1_pay16 xt w) (k1_pay17 xb w) (k1_pay18 a) (k1_pay19 a))
      (k1_pay25 (k1_pay14 d) (k1_pay15 xc w) (k1_pay16 xt w) (k1_pay17 xb w) (k1_pay18 a) (k1_pay19 a))
      (k1_pay26 (k1_pay14 d) (k1_pay15 xc w) (k1_pay16 xt w) (k1_pay17 xb w) (k1_pay18 a) (k1_pay19 a)) p
      = unit (tapsV d (extV a xc xt xb w)) p := rfl

/-- The channel of head `h`'s row `o`'s head that has the number `d` in its head. -/
def inHead (o : Fin 96) (d : Fin 24) : Fin 96 := ⟨o.val / 24 * 24 + d.val, by omega⟩

/-- Row products of equal rows are equal. -/
theorem rows_eq (u v : FVec Ideal S96x6144 .bf16) {o o' e e' : Fin 96} (ho : o = o') (he : e = e') :
    ∑ f : Fin 6144, u (ix2 o f) * v (ix2 e f) = ∑ f : Fin 6144, u (ix2 o' f) * v (ix2 e' f) := by
  rw [ho, he]

/-- Region 1's running products: row `o` against the channels of its head. -/
theorem gram_read (u v : FVec Ideal S96x6144 .bf16) (p : FVec Ideal S1x96x24 .f32) (j : S1x96x24.Idx) :
    k1_pay2 u v p j = p j + ∑ f : Fin 6144, u (ix2 (j 1) f) * v (ix2 (inHead (j 1) (j 2)) f) := by
  pointwise [k1_pay2]
  refine congrArg (p j + ·) ?_
  have ho : (j 1).val < 96 := (j 1).isLt
  split_ifs
  all_goals
    refine Fin.sum_fin_congr fun f => ?_
    exact congrArg₂ (fun k l : Fin 96 => u (ix2 k f) * v (ix2 l f)) (Fin.ext (by simp <;> omega)) (Fin.ext (by simp [inHead] <;> omega))

/-- Region 3's block at an element: the projection of the scaled mixtures of the heads' channels. -/
theorem out3 (i : grid3.Coords) (s : FVec Ideal S1x96x24 .f32) (a : FVec Ideal S1x1 .f32) (p : FVec Ideal S96x96 .bf16) (j : S1x96x6144.Idx) :
    (k3_pay10 (F := Ideal) (k3_pay1 d) (k3_pay2 i xc xt xb w) (k3_pay6 (k3_pay2 i xc xt xb w) k3_pay3 rowLen k3_pay4 0#32)
      (k3_pay7 (k3_pay2 i xc xt xb w) k3_pay3 rowLen k3_pay4 0#32)
      (k3_pay8 (k3_pay1 d) (k3_pay2 i xc xt xb w) k3_pay3 rowLen k3_pay4 0#32) (k3_pay9 (k3_pay1 d)) s a p : FVec Ideal S1x96x6144 .f32) j
      = ∑ c : Fin 96, p (ix2 (j 1) c) * ((∑ e : Fin 24, s (ix3 0 c e) * blockConv (i 1).val xc xt xb w d (ix2 (inHead c e) (j 2))) * a (ix2 0 0)) := by
  show (shapeCast S1x96x6144 (matmul dot_S96x96_S96x6144_S96x6144_1_0_0_1_n_n none (shapeCast S96x96 p shapeCasts_S96x96_S96x96)
    (truncf .bf16 (mulf (concatenate S96x6144 0
      [⟨S24x6144, matmul dot_S24x24_S24x6144_S24x6144_1_0_0_1_n_n none (extractStridedSlice S24x24 ![0, 0] (truncf .bf16 (shapeCast S96x24 s shapeCasts_S1x96x24_S96x24) bitsLt_bf16_f32) slices_S96x24_o0_0_S24x24)
        (extractStridedSlice S24x6144 ![0, 0] (truncf .bf16 (blockConv (i 1).val xc xt xb w d) bitsLt_bf16_f32) slices_S96x6144_o0_0_S24x6144) (constant (F := Ideal) S24x6144 .f32 0x00000000#32)⟩,
       ⟨S24x6144, matmul dot_S24x24_S24x6144_S24x6144_1_0_0_1_n_n none (extractStridedSlice S24x24 ![24, 0] (truncf .bf16 (shapeCast S96x24 s shapeCasts_S1x96x24_S96x24) bitsLt_bf16_f32) slices_S96x24_o24_0_S24x24)
        (extractStridedSlice S24x6144 ![24, 0] (truncf .bf16 (blockConv (i 1).val xc xt xb w d) bitsLt_bf16_f32) slices_S96x6144_o24_0_S24x6144) (constant (F := Ideal) S24x6144 .f32 0x00000000#32)⟩,
       ⟨S24x6144, matmul dot_S24x24_S24x6144_S24x6144_1_0_0_1_n_n none (extractStridedSlice S24x24 ![48, 0] (truncf .bf16 (shapeCast S96x24 s shapeCasts_S1x96x24_S96x24) bitsLt_bf16_f32) slices_S96x24_o48_0_S24x24)
        (extractStridedSlice S24x6144 ![48, 0] (truncf .bf16 (blockConv (i 1).val xc xt xb w d) bitsLt_bf16_f32) slices_S96x6144_o48_0_S24x6144) (constant (F := Ideal) S24x6144 .f32 0x00000000#32)⟩,
       ⟨S24x6144, matmul dot_S24x24_S24x6144_S24x6144_1_0_0_1_n_n none (extractStridedSlice S24x24 ![72, 0] (truncf .bf16 (shapeCast S96x24 s shapeCasts_S1x96x24_S96x24) bitsLt_bf16_f32) slices_S96x24_o72_0_S24x24)
        (extractStridedSlice S24x6144 ![72, 0] (truncf .bf16 (blockConv (i 1).val xc xt xb w d) bitsLt_bf16_f32) slices_S96x6144_o72_0_S24x6144) (constant (F := Ideal) S24x6144 .f32 0x00000000#32)⟩]
      concatenates_S24x6144_S24x6144_S24x6144_S24x6144_S96x6144_d0)
      (broadcast S96x6144 (extractAt ![0, 0] a inpos_S1x1_p0_0))) bitsLt_bf16_f32) (constant (F := Ideal) S96x6144 .f32 0x00000000#32))
      shapeCasts_S96x6144_S1x96x6144 : FVec Ideal S1x96x6144 .f32) j = _
  generalize blockConv (i 1).val xc xt xb w d = v
  pointwise []
  refine Fin.sum_fin_congr fun c => congrArg (p (ix2 (j 1) c) * ·) (congrArg (· * a (ix2 0 0)) ?_)
  have hc := c.isLt
  split_ifs
  all_goals
    refine Fin.sum_fin_congr fun e => ?_
    exact congrArg₂ (fun k l : Fin 96 => s (ix3 0 k e) * v (ix2 l (j 2))) (Fin.ext (by simp <;> omega)) (Fin.ext (by simp [inHead] <;> omega))

end

end Cert.ChannelAttn

end
-- ==== Proof.Region0.lean ====
/-
  The first region's arrays: the squared norms of the channels of both images after the convolutions.
-/
module

public import proofs.«01_k».proof.Proof.Parts
public import proofs.«01_k».proof.Proof.Gen.KernelIdeal.Frame

@[expose] public section

set_option maxRecDepth 16384

noncomputable section

namespace Cert.ChannelAttn

open Idealize.ShloMosaic Idealize.ShloMosaic.TcCoe Cert.KernelIdeal Cert.KernelIdeal.Gen

/-- The pixels of an image whose rows are laid out one after another. -/
def img (A : FVec Ideal S2x96x147456 .f32) (b : Fin 2) (c : Fin 96) (h w : Fin 384) : EReal := A (ix3 b c ⟨h.val * 384 + w.val, by omega⟩)

/-- The convolutions of an image: channel `o` at pixel `n`. -/
def chan (A : FVec Ideal S2x96x147456 .f32) (w : FVec Ideal S96x96 .bf16) (d : FVec Ideal S96x9 .f32) (b : Fin 2) (o : Fin 96) (n : ℕ) : EReal :=
  conv3 (fun k => d (ix2 o k)) (pix (fun o c => w (ix2 o c)) (img A b) o) (n / 384) (n % 384)

variable (V : (c : Dev nD) → (b : Ref sig .tc) → Buf (Elt Ideal) ((c : Thread nD τ).loc b))

/-- The blocks each step of the first call sees: the image and the rows of its strip, and the row before and the row after it. -/
theorem idx0 : ∀ t : Fin cfg0.N, win0_0.index t = ![t.val / 24, 0, t.val % 24] ∧ win0_1.index t = ![t.val / 24, 0, t.val % 24 * 16 - 1]
    ∧ win0_2.index t = ![t.val / 24, 0, min (t.val % 24 * 16 + 16) 383] ∧ win0_3.index t = ![t.val / 24, 0, t.val % 24] ∧ win0_4.index t = ![t.val / 24, 0, t.val % 24 * 16 - 1]
    ∧ win0_5.index t = ![t.val / 24, 0, min (t.val % 24 * 16 + 16) 383] ∧ win0_6.index t = ![0, 0] ∧ win0_7.index t = ![0, 0] ∧ win0_8.index t = ![0, 0] ∧ win0_9.index t = ![0, 0]
    ∧ win0_10.index t = ![t.val / 24, 0, 0] ∧ win0_11.index t = ![t.val / 24, 0, 0] ∧ (grid0.coords t 1).val = t.val % 24 :=
  (by decide +kernel : ∀ t : Fin grid0.N, _)

/-- The three blocks of the queries at a step hold the strip and its two neighbouring rows. -/
theorem hold0 (c : Dev nD) (t : Fin cfg0.N) (b : Fin 2) (hb : t.val / 24 = b.val) :
    Holds (t.val % 24) (img (V c main_v0) b) (iblk0 V c 0 t) (iblk0 V c 1 t) (iblk0 V c 2 t) where
  lt := by omega
  mid c f := by blk_ext [iblk0, img, idx0 t]
  top h c r := by blk_ext [iblk0, img, idx0 t]
  bot h c r := by blk_ext [iblk0, img, idx0 t]

/-- The three blocks of the keys at a step hold the strip and its two neighbouring rows. -/
theorem holdk0 (c : Dev nD) (t : Fin cfg0.N) (b : Fin 2) (hb : t.val / 24 = b.val) :
    Holds (t.val % 24) (img (V c main_v1) b) (iblk0 V c 3 t) (iblk0 V c 4 t) (iblk0 V c 5 t) where
  lt := by omega
  mid c f := by blk_ext [iblk0, img, idx0 t]
  top h c r := by blk_ext [iblk0, img, idx0 t]
  bot h c r := by blk_ext [iblk0, img, idx0 t]

/-- The starting value of the queries' sums is zero. -/
theorem zero27 (j) : (k0_pay27 : FVec Ideal S1x96x1 .f32) j = 0 := by pointwise [k0_pay27]
/-- The starting value of the keys' sums is zero. -/
theorem zero28 (j) : (k0_pay28 : FVec Ideal S1x96x1 .f32) j = 0 := by pointwise [k0_pay28]

/-- The squared norms of the channels. -/
def norms (A : FVec Ideal S2x96x147456 .f32) (w : FVec Ideal S96x96 .bf16) (d : FVec Ideal S96x9 .f32) : FVec Ideal S2x96x1 .f32 :=
  fun y => ∑ n : Fin 147456, chan A w d (y 0) (y 1) n * chan A w d (y 0) (y 1) n

/-- A block's convolution is the channel's at the pixels of the block. -/
theorem block_chan (A : FVec Ideal S2x96x147456 .f32) {t : ℕ} {b : Fin 2} {xc xt xb} (H : Holds t (img A b) xc xt xb) (w : FVec Ideal S96x96 .bf16)
    (d : FVec Ideal S96x9 .f32) (o : Fin 96) (f : Fin 6144) : blockConv t xc xt xb w d (ix2 o f) = chan A w d b o (t * 6144 + f.val) := by
  have hq : (t * 6144 + f.val) / 384 = t * 16 + f.val / 384 := by omega
  have hr : (t * 6144 + f.val) % 384 = f.val % 384 := by omega
  rw [blockConv, conv_read H, chan, hq, hr]

/-- The queries' 1×1 matrix is seen whole at every step. -/
theorem w0_6 (c : Dev nD) (t : Fin cfg0.N) : iblk0 V c 6 t = V c main_v3 := by
  funext j; blk_ext [iblk0, idx0 t]
/-- The queries' taps are seen whole at every step. -/
theorem w0_7 (c : Dev nD) (t : Fin cfg0.N) : iblk0 V c 7 t = V c main_v10 := by
  funext j; blk_ext [iblk0, idx0 t]
/-- The keys' 1×1 matrix is seen whole at every step. -/
theorem w0_8 (c : Dev nD) (t : Fin cfg0.N) : iblk0 V c 8 t = V c main_v6 := by
  funext j; blk_ext [iblk0, idx0 t]
/-- The keys' taps are seen whole at every step. -/
theorem w0_9 (c : Dev nD) (t : Fin cfg0.N) : iblk0 V c 9 t = V c main_v12 := by
  funext j; blk_ext [iblk0, idx0 t]

/-- A point's block of the first image. -/
theorem point0_10 (c : Dev nD) (t : Fin cfg0.N) (o o' : Fin 96) (f : Fin 6144) (b : Fin 2) (n : ℕ) (hb : t.val / 24 = b.val) (ho : o = o')
    (hn : t.val % 24 * 6144 + f.val = n) :
    blockConv (grid0.coords t 1).val (iblk0 V c 0 t) (iblk0 V c 1 t) (iblk0 V c 2 t) (iblk0 V c 6 t) (iblk0 V c 7 t) (ix2 o f)
      = chan (V c main_v0) (V c main_v3) (V c main_v10) b o' n := by
  rw [(idx0 t).2.2.2.2.2.2.2.2.2.2.2.2, w0_6, w0_7]
  rw [block_chan (V c main_v0) (hold0 V c t b hb), ho, hn]

/-- The region's first array. -/
theorem final0_10 (c : Dev nD) : (dat0 V c).arrAt 10 cfg0.N = norms (V c main_v0) (V c main_v3) (V c main_v10) := by
  refine (dat0 V c).arrAt_eq_of_covers 10 _ (by decide +kernel) fun t hf y => ?_
  blk_simp
  rw [after0_10, Pipeline.eq_sum_fin_of_reset_step_apply_of_flush (fun n h => (outsAt0 V c n h).1) 24 (fun _ => 0)
    (fun t j => ∑ f : Fin 6144, blockConv (grid0.coords t 1).val (iblk0 V c 0 t) (iblk0 V c 1 t) (iblk0 V c 2 t) (iblk0 V c 6 t) (iblk0 V c 7 t) (ix2 (j 1) f)
      * blockConv (grid0.coords t 1).val (iblk0 V c 0 t) (iblk0 V c 1 t) (iblk0 V c 2 t) (iblk0 V c 6 t) (iblk0 V c 7 t) (ix2 (j 1) f))
    (fun t h j => by
      rw [outsAt0_A V c t h]; frame_out
      exact (addSq_read (blockConv (grid0.coords t 1).val (iblk0 V c 0 t) (iblk0 V c 1 t) (iblk0 V c 2 t) (iblk0 V c 6 t) (iblk0 V c 7 t)) _ j).trans (by rw [zero27]))
    (fun t h j => by
      rw [outsAt0_B V c t h]; frame_out
      exact addSq_read (blockConv (grid0.coords t 1).val (iblk0 V c 0 t) (iblk0 V c 1 t) (iblk0 V c 2 t) (iblk0 V c 6 t) (iblk0 V c 7 t)) _ j)
    t ((flush0_10 t).mp hf) _, zero_add]
  refine Fin.sum_mul_add_congr fun s k hl => ?_
  have hs := Pipeline.run_point_lt_of_flush t ((flush0_10 t).mp hf) s
  have hp := point0_10 V c ⟨_, hs⟩ (y 1) ((win0_10.blk t).view.emb y 1) k ((win0_10.blk t).view.emb y 0) (s.val * 6144 + k.val)
    ((show (24 * (t.val / 24) + s.val) / 24 = t.val / 24 by omega).trans (by blk_simp [idx0 t])) (Fin.ext (by blk_simp [idx0 t] <;> omega)) (by simp only <;> omega)
  exact congrArg₂ (fun a b : EReal => a * b) hp hp

/-- A point's block of the second image. -/
theorem point0_11 (c : Dev nD) (t : Fin cfg0.N) (o o' : Fin 96) (f : Fin 6144) (b : Fin 2) (n : ℕ) (hb : t.val / 24 = b.val) (ho : o = o')
    (hn : t.val % 24 * 6144 + f.val = n) :
    blockConv (grid0.coords t 1).val (iblk0 V c 3 t) (iblk0 V c 4 t) (iblk0 V c 5 t) (iblk0 V c 8 t) (iblk0 V c 9 t) (ix2 o f)
      = chan (V c main_v1) (V c main_v6) (V c main_v12) b o' n := by
  rw [(idx0 t).2.2.2.2.2.2.2.2.2.2.2.2, w0_8, w0_9]
  rw [block_chan (V c main_v1) (holdk0 V c t b hb), ho, hn]

/-- The region's second array. -/
theorem final0_11 (c : Dev nD) : (dat0 V c).arrAt 11 cfg0.N = norms (V c main_v1) (V c main_v6) (V c main_v12) := by
  refine (dat0 V c).arrAt_eq_of_covers 11 _ (by decide +kernel) fun t hf y => ?_
  blk_simp
  rw [after0_11, Pipeline.eq_sum_fin_of_reset_step_apply_of_flush (fun n h => (outsAt0 V c n h).2) 24 (fun _ => 0)
    (fun t j => ∑ f : Fin 6144, blockConv (grid0.coords t 1).val (iblk0 V c 3 t) (iblk0 V c 4 t) (iblk0 V c 5 t) (iblk0 V c 8 t) (iblk0 V c 9 t) (ix2 (j 1) f)
      * blockConv (grid0.coords t 1).val (iblk0 V c 3 t) (iblk0 V c 4 t) (iblk0 V c 5 t) (iblk0 V c 8 t) (iblk0 V c 9 t) (ix2 (j 1) f))
    (fun t h j => by
      rw [outsAt0_A V c t h]; frame_out
      exact (addSq_read (blockConv (grid0.coords t 1).val (iblk0 V c 3 t) (iblk0 V c 4 t) (iblk0 V c 5 t) (iblk0 V c 8 t) (iblk0 V c 9 t)) _ j).trans (by rw [zero28]))
    (fun t h j => by
      rw [outsAt0_B V c t h]; frame_out
      exact addSq_read (blockConv (grid0.coords t 1).val (iblk0 V c 3 t) (iblk0 V c 4 t) (iblk0 V c 5 t) (iblk0 V c 8 t) (iblk0 V c 9 t)) _ j)
    t ((flush0_11 t).mp hf) _, zero_add]
  refine Fin.sum_mul_add_congr fun s k hl => ?_
  have hs := Pipeline.run_point_lt_of_flush t ((flush0_11 t).mp hf) s
  have hp := point0_11 V c ⟨_, hs⟩ (y 1) ((win0_11.blk t).view.emb y 1) k ((win0_11.blk t).view.emb y 0) (s.val * 6144 + k.val)
    ((show (24 * (t.val / 24) + s.val) / 24 = t.val / 24 by omega).trans (by blk_simp [idx0 t])) (Fin.ext (by blk_simp [idx0 t] <;> omega)) (by simp only <;> omega)
  exact congrArg₂ (fun a b : EReal => a * b) hp hp

end Cert.ChannelAttn

end
-- ==== Proof.Region1.lean ====
/-
  The second region's array: the products of the normalised channels within each head.
-/
module

public import proofs.«01_k».proof.Proof.Region0

@[expose] public section

set_option maxRecDepth 16384

noncomputable section

namespace Cert.ChannelAttn

open Idealize.ShloMosaic Idealize.ShloMosaic.TcCoe Cert.KernelIdeal Cert.KernelIdeal.Gen

variable (V : (c : Dev nD) → (b : Ref sig .tc) → Buf (Elt Ideal) ((c : Thread nD τ).loc b))

/-- The bound below which a norm is clipped. -/
def eps : EReal := FloatOps.ofBits (F := Ideal) .f32 0x2B8CBCCC#32

/-- A channel at a pixel divided by the channel's clipped norm. -/
def unitChan (A : FVec Ideal S2x96x147456 .f32) (w : FVec Ideal S96x96 .bf16) (d : FVec Ideal S96x9 .f32) (Q : FVec Ideal S2x96x1 .f32)
    (b : Fin 2) (o : Fin 96) (n : ℕ) : EReal :=
  Ideal.div (chan A w d b o n) (max (FloatOps.sqrt (F := Ideal) (φ := .f32) (Q (ix3 b o 0))) eps)

/-- The products of the normalised channels within each head. -/
def grams (A B : FVec Ideal S2x96x147456 .f32) (w w' : FVec Ideal S96x96 .bf16) (d d' : FVec Ideal S96x9 .f32) (Q K : FVec Ideal S2x96x1 .f32) :
    FVec Ideal S2x96x24 .f32 :=
  fun y => ∑ n : Fin 147456, unitChan A w d Q (y 0) (y 1) n * unitChan B w' d' K (y 0) (inHead (y 1) (y 2)) n

/-- The blocks each step of the second call sees: the image and the rows of its strip, and the row before and the row after it. -/
theorem idx1 : ∀ t : Fin cfg1.N, win1_0.index t = ![t.val / 24, 0, t.val % 24] ∧ win1_1.index t = ![t.val / 24, 0, t.val % 24 * 16 - 1]
    ∧ win1_2.index t = ![t.val / 24, 0, min (t.val % 24 * 16 + 16) 383] ∧ win1_3.index t = ![t.val / 24, 0, t.val % 24] ∧ win1_4.index t = ![t.val / 24, 0, t.val % 24 * 16 - 1]
    ∧ win1_5.index t = ![t.val / 24, 0, min (t.val % 24 * 16 + 16) 383] ∧ win1_6.index t = ![0, 0] ∧ win1_7.index t = ![0, 0] ∧ win1_8.index t = ![0, 0] ∧ win1_9.index t = ![0, 0]
    ∧ win1_10.index t = ![t.val / 24, 0, 0] ∧ win1_11.index t = ![t.val / 24, 0, 0] ∧ win1_12.index t = ![t.val / 24, 0, 0] ∧ (grid1.coords t 1).val = t.val % 24 :=
  (by decide +kernel : ∀ t : Fin grid1.N, _)

/-- The three blocks of the queries at a step hold the strip and its two neighbouring rows. -/
theorem hold1 (c : Dev nD) (t : Fin cfg1.N) (b : Fin 2) (hb : t.val / 24 = b.val) :
    Holds (t.val % 24) (img (V c main_v0) b) (iblk1 V c 0 t) (iblk1 V c 1 t) (iblk1 V c 2 t) where
  lt := by omega
  mid c f := by blk_ext [iblk1, img, idx1 t]
  top h c r := by blk_ext [iblk1, img, idx1 t]
  bot h c r := by blk_ext [iblk1, img, idx1 t]

/-- The three blocks of the keys at a step hold the strip and its two neighbouring rows. -/
theorem holdk1 (c : Dev nD) (t : Fin cfg1.N) (b : Fin 2) (hb : t.val / 24 = b.val) :
    Holds (t.val % 24) (img (V c main_v1) b) (iblk1 V c 3 t) (iblk1 V c 4 t) (iblk1 V c 5 t) where
  lt := by omega
  mid c f := by blk_ext [iblk1, img, idx1 t]
  top h c r := by blk_ext [iblk1, img, idx1 t]
  bot h c r := by blk_ext [iblk1, img, idx1 t]

/-- The queries' 1×1 matrix is seen whole at every step. -/
theorem w1_6 (c : Dev nD) (t : Fin cfg1.N) : iblk1 V c 6 t = V c main_v3 := by
  funext j; blk_ext [iblk1, idx1 t]
/-- The queries' taps are seen whole at every step. -/
theorem w1_7 (c : Dev nD) (t : Fin cfg1.N) : iblk1 V c 7 t = V c main_v10 := by
  funext j; blk_ext [iblk1, idx1 t]
/-- The keys' 1×1 matrix is seen whole at every step. -/
theorem w1_8 (c : Dev nD) (t : Fin cfg1.N) : iblk1 V c 8 t = V c main_v6 := by
  funext j; blk_ext [iblk1, idx1 t]
/-- The keys' taps are seen whole at every step. -/
theorem w1_9 (c : Dev nD) (t : Fin cfg1.N) : iblk1 V c 9 t = V c main_v12 := by
  funext j; blk_ext [iblk1, idx1 t]

/-- The two operands of a point: the normalised blocks. -/
def left1 (c : Dev nD) (t : Fin cfg1.N) : FVec Ideal S96x6144 .bf16 :=
  unit (blockConv (grid1.coords t 1).val (iblk1 V c 0 t) (iblk1 V c 1 t) (iblk1 V c 2 t) (iblk1 V c 6 t) (iblk1 V c 7 t)) (iblk1 V c 10 t)
/-- The normalised keys of a strip. -/
def right1 (c : Dev nD) (t : Fin cfg1.N) : FVec Ideal S96x6144 .bf16 :=
  unit (blockConv (grid1.coords t 1).val (iblk1 V c 3 t) (iblk1 V c 4 t) (iblk1 V c 5 t) (iblk1 V c 8 t) (iblk1 V c 9 t)) (iblk1 V c 11 t)

/-- The normalised queries of a strip, read at a channel and a pixel. -/
theorem left1_read (c : Dev nD) (t : Fin cfg1.N) (o o' : Fin 96) (f : Fin 6144) (b : Fin 2) (n : ℕ) (hb : t.val / 24 = b.val) (ho : o = o')
    (hn : t.val % 24 * 6144 + f.val = n) :
    left1 V c t (ix2 o f) = unitChan (V c main_v0) (V c main_v3) (V c main_v10) (V c main_v22_0) b o' n := by
  have hQ : iblk1 V c 10 t (ix3 0 o 0) = V c main_v22_0 (ix3 b o 0) := by blk_ext [iblk1, idx1 t]
  rw [left1, unit_read, (idx1 t).2.2.2.2.2.2.2.2.2.2.2.2.2, w1_6, w1_7]
  rw [block_chan (V c main_v0) (hold1 V c t b hb), hn, hQ, ho]
  rfl

/-- The normalised keys of a strip, read at a channel and a pixel. -/
theorem right1_read (c : Dev nD) (t : Fin cfg1.N) (o o' : Fin 96) (f : Fin 6144) (b : Fin 2) (n : ℕ) (hb : t.val / 24 = b.val) (ho : o = o')
    (hn : t.val % 24 * 6144 + f.val = n) :
    right1 V c t (ix2 o f) = unitChan (V c main_v1) (V c main_v6) (V c main_v12) (V c main_v22_1) b o' n := by
  have hQ : iblk1 V c 11 t (ix3 0 o 0) = V c main_v22_1 (ix3 b o 0) := by blk_ext [iblk1, idx1 t]
  rw [right1, unit_read, (idx1 t).2.2.2.2.2.2.2.2.2.2.2.2.2, w1_8, w1_9]
  rw [block_chan (V c main_v1) (holdk1 V c t b hb), hn, hQ, ho]
  rfl

/-- The starting value of the products is zero. -/
theorem zero1 (j) : (k1_pay1 : FVec Ideal S1x96x24 .f32) j = 0 := by pointwise [k1_pay1]

/-- The region's array. -/
theorem final1 (c : Dev nD) : (dat1 V c).arrAt 12 cfg1.N
    = grams (V c main_v0) (V c main_v1) (V c main_v3) (V c main_v6) (V c main_v10) (V c main_v12) (V c main_v22_0) (V c main_v22_1) := by
  refine (dat1 V c).arrAt_eq_of_covers 12 _ (by decide +kernel) fun t hf y => ?_
  blk_simp
  rw [after1_12, Pipeline.eq_sum_fin_of_reset_step_apply_of_flush (fun n h => outsAt1 V c n h) 24 (fun _ => 0)
    (fun t j => ∑ f : Fin 6144, left1 V c t (ix2 (j 1) f) * right1 V c t (ix2 (inHead (j 1) (j 2)) f))
    (fun t h j => by
      rw [outsAt1_A V c t h]; frame_out
      exact (gram_read (left1 V c t) (right1 V c t) _ j).trans (by rw [zero1]))
    (fun t h j => by
      rw [outsAt1_B V c t h]; frame_out
      exact gram_read (left1 V c t) (right1 V c t) _ j)
    t ((flush1_12 t).mp hf) _, zero_add]
  refine Fin.sum_mul_add_congr fun s k hl => ?_
  have hs := Pipeline.run_point_lt_of_flush t ((flush1_12 t).mp hf) s
  have hb : (24 * (t.val / 24) + s.val) / 24 = (((win1_12.blk t).view.emb y 0 : Fin 2)).val :=
    (show (24 * (t.val / 24) + s.val) / 24 = t.val / 24 by omega).trans (by blk_simp [idx1 t])
  have h1 : (y 1 : Fin 96) = (win1_12.blk t).view.emb y 1 := Fin.ext (by blk_simp [idx1 t] <;> omega)
  have h2 : inHead (y 1) (y 2) = inHead ((win1_12.blk t).view.emb y 1) ((win1_12.blk t).view.emb y 2) :=
    congrArg₂ inHead h1 (Fin.ext (by blk_simp [idx1 t] <;> omega))
  exact congrArg₂ (fun a b : EReal => a * b)
    (left1_read V c ⟨_, hs⟩ (y 1) ((win1_12.blk t).view.emb y 1) k ((win1_12.blk t).view.emb y 0) (s.val * 6144 + k.val) hb h1 (by simp only <;> omega))
    (right1_read V c ⟨_, hs⟩ (inHead (y 1) (y 2)) (inHead ((win1_12.blk t).view.emb y 1) ((win1_12.blk t).view.emb y 2)) k
      ((win1_12.blk t).view.emb y 0) (s.val * 6144 + k.val) hb h2 (by simp only <;> omega))

end Cert.ChannelAttn

end
-- ==== Proof.Drop.lean ====
/-
  Which entries of a row of 24 extended reals are kept: dropping three times the smallest entry, the one at the
  highest position among equals, leaves the 21 entries that a stable sort by descending value puts first.
-/
module

public import Idealize.ShloMosaic.Lib.SortFacts
public import Idealize.ShloMosaic.PureOps.Ideal

@[expose] public section

namespace Cert.ChannelAttn

open Idealize.ShloMosaic

/-- `m` is the position a drop takes: its entry is smallest, and it is the last position of that entry. -/
def IsDrop {n : Nat} (x : Fin n → EReal) (m : Fin n) : Prop := (∀ d, x m ≤ x d) ∧ ∀ d, x d = x m → d ≤ m

/-- The row after a drop: the entry at `m` replaced by `⊤`. -/
noncomputable def dropped {n : Nat} (x : Fin n → EReal) (m : Fin n) : Fin n → EReal := fun d => if d = m then ⊤ else x d

/-- The order of a stable sort by descending value: the greater entry first, of equals the lower position. -/
def Ahead {n : Nat} (x : Fin n → EReal) (a b : Fin n) : Prop := x b < x a ∨ (x a = x b ∧ a < b)

section Lists
variable {n : Nat} (x : Fin n → EReal)

/-- Inserting a position lower than every position of an ordered list leaves the list ordered. -/
theorem ahead_insertBefore (a : Fin n) (l : List (Fin n)) (ha : ∀ b ∈ l, a < b) (hl : l.Pairwise (Ahead x)) :
    (insertBefore (fun p q => decide (x q < x p)) a l).Pairwise (Ahead x) := by
  induction l with
  | nil => simp [insertBefore]
  | cons b l ih =>
    obtain ⟨hb, hl'⟩ := List.pairwise_cons.mp hl
    unfold insertBefore
    split
    · next h =>
      have hba : x a < x b := by simpa using h
      refine List.pairwise_cons.mpr ⟨fun c hc => ?_, ih (fun c hc => ha c (List.mem_cons_of_mem _ hc)) hl'⟩
      rcases List.mem_cons.mp ((perm_insertBefore _ a l).mem_iff.mp hc) with rfl | hc'
      · exact Or.inl hba
      · exact hb c hc'
    · next h =>
      have hab : x b ≤ x a := by simpa using h
      refine List.pairwise_cons.mpr ⟨fun c hc => ?_, hl⟩
      have hac := ha c hc
      have hle : x c ≤ x a := by
        rcases List.mem_cons.mp hc with rfl | hc'
        · exact hab
        · rcases hb c hc' with h1 | ⟨h1, -⟩
          · exact h1.le.trans hab
          · exact h1.symm.le.trans hab
      rcases hle.lt_or_eq with h1 | h1
      · exact Or.inl h1
      · exact Or.inr ⟨h1.symm, hac⟩

/-- The stable sort by descending value puts positions in the order `Ahead`. -/
theorem ahead_stableSort (l : List (Fin n)) (hl : l.Pairwise (· < ·)) :
    (stableSort (fun p q => decide (x q < x p)) l).Pairwise (Ahead x) := by
  induction l with
  | nil => simp [stableSort]
  | cons a l ih =>
    obtain ⟨ha, hl'⟩ := List.pairwise_cons.mp hl
    unfold stableSort
    exact ahead_insertBefore x a _ (fun b hb => ha b ((perm_stableSort _ l).mem_iff.mp hb)) (ih hl')

/-- Of two places of the sorted row, the position at the earlier place is ahead. -/
theorem ahead_sortedFrom (i j : Fin n) (hij : i < j) :
    Ahead x (sortedFrom (fun p q => decide (x q < x p)) i) (sortedFrom (fun p q => decide (x q < x p)) j) := by
  have hp := List.pairwise_iff_get.mp (ahead_stableSort x (List.finRange n) (List.pairwise_lt_finRange n))
  exact hp (i.cast (length_sortPositions n _).symm) (j.cast (length_sortPositions n _).symm) hij

end Lists

/-- Of two positions at most one is ahead of the other. -/
theorem ahead_asymm {n : Nat} {x : Fin n → EReal} {a b : Fin n} (h : Ahead x a b) (h' : Ahead x b a) : False := by
  rcases h with h | ⟨h, hlt⟩ <;> rcases h' with h' | ⟨h', hlt'⟩
  · exact absurd (h.trans h') (lt_irrefl _)
  · exact absurd (h'.symm ▸ h) (lt_irrefl _)
  · exact absurd (h.symm ▸ h') (lt_irrefl _)
  · exact absurd (hlt.trans hlt') (lt_irrefl _)

/-- A drop of a row takes a position that every other position is ahead of. -/
theorem IsDrop.ahead {n : Nat} {x : Fin n → EReal} {m : Fin n} (h : IsDrop x m) (d : Fin n) (hd : d ≠ m) : Ahead x d m := by
  rcases (h.1 d).lt_or_eq with h1 | h1
  · exact Or.inl h1
  · exact Or.inr ⟨h1.symm, lt_of_le_of_ne (h.2 d h1.symm) hd⟩

/-- Where every entry is below `⊤`, the next drop after dropping the positions of `S` takes a position outside `S` that
    every other position outside `S` is ahead of. -/
theorem IsDrop.ahead_of {n : Nat} {x : Fin n → EReal} (hx : ∀ d, x d < ⊤) (S : Finset (Fin n)) (hS : S.card < n) {y : Fin n → EReal}
    (hy : ∀ d, y d = if d ∈ S then ⊤ else x d) {m : Fin n} (h : IsDrop y m) :
    m ∉ S ∧ ∀ d, d ∉ S → d ≠ m → Ahead x d m := by
  have hex : ∃ d, d ∉ S := by
    by_contra hc
    push Not at hc
    have : S = Finset.univ := Finset.eq_univ_iff_forall.mpr hc
    rw [this, Finset.card_univ, Fintype.card_fin] at hS
    exact absurd hS (lt_irrefl _)
  obtain ⟨e, he⟩ := hex
  have hm : m ∉ S := by
    intro hmS
    have h1 := h.1 e
    rw [hy, hy, if_pos hmS, if_neg he, top_le_iff] at h1
    exact absurd h1 (hx e).ne
  refine ⟨hm, fun d hd hdm => ?_⟩
  have := h.ahead d hdm
  unfold Ahead at this ⊢
  rwa [hy, hy, if_neg hm, if_neg hd] at this

/-- Three drops and a row with every entry below `⊤`: the places 0–20 of the stable sort by descending value hold
    exactly the positions that were not dropped. -/
theorem kept_iff {x : Fin 24 → EReal} (hx : ∀ d, x d < ⊤) {m0 m1 m2 : Fin 24} (h0 : IsDrop x m0) (h1 : IsDrop (dropped x m0) m1)
    (h2 : IsDrop (dropped (dropped x m0) m1) m2) (d : Fin 24) :
    (∃ i : Fin 24, i.val < 21 ∧ sortedFrom (fun p q => decide (x q < x p)) i = d) ↔ ¬ (d = m0 ∨ d = m1 ∨ d = m2) := by
  set σ := sortedFrom (fun p q => decide (x q < x p)) with hσ
  have hsurj : Function.Surjective σ := sortedFrom_surjective _
  have hinj : Function.Injective σ := sortedFrom_injective _
  obtain ⟨n0, a0⟩ := IsDrop.ahead_of hx ∅ (by simp) (by simp) h0
  obtain ⟨n1, a1⟩ := IsDrop.ahead_of hx {m0} (by simp) (fun d => by simp [dropped]) h1
  obtain ⟨n2, a2⟩ := IsDrop.ahead_of hx {m0, m1} (lt_of_le_of_lt Finset.card_le_two (by norm_num))
    (fun d => by by_cases e : d = m1 <;> by_cases e' : d = m0 <;> simp [dropped, e, e']) h2
  have n10 : m1 ≠ m0 := by simpa using n1
  have n2' : m2 ≠ m0 ∧ m2 ≠ m1 := by simpa using n2
  have last : ∀ (p : Fin 24) (m : Fin 24), (∀ j : Fin 24, p < j → σ j ≠ m) → (∀ d, (∀ j : Fin 24, p < j → σ j ≠ d) → d ≠ m → Ahead x d m) →
      σ p = m := by
    intro p m hm ha
    by_contra hne
    obtain ⟨i, hi⟩ := hsurj m
    have hip : i < p := by
      rcases lt_trichotomy i p with h | h | h
      · exact h
      · exact absurd (h ▸ hi) hne
      · exact absurd hi (hm i h)
    have h1 : Ahead x (σ i) (σ p) := ahead_sortedFrom x i p hip
    have h2 : Ahead x (σ p) m := ha (σ p) (fun j hj h => absurd (hinj h) hj.ne') hne
    rw [hi] at h1
    exact ahead_asymm h1 h2
  have e0 : σ 23 = m0 := last 23 m0 (fun j hj => absurd hj (by have := j.isLt; simp [Fin.lt_def]; omega)) (fun d _ hd => a0 d (by simp) hd)
  have j22 : ∀ j : Fin 24, 22 < j → j = 23 := by decide
  have j21 : ∀ j : Fin 24, 21 < j → j = 22 ∨ j = 23 := by decide
  have e1 : σ 22 = m1 := last 22 m1 (fun j hj => by rw [j22 j hj, e0]; exact n10.symm)
    (fun d hd hne => a1 d (by simpa using fun h => hd 23 (by decide) (e0.trans h.symm)) hne)
  have e2 : σ 21 = m2 := last 21 m2
    (fun j hj => by
      rcases j21 j hj with h | h
      · rw [h, e1]; exact n2'.2.symm
      · rw [h, e0]; exact n2'.1.symm)
    (fun d hd hne => a2 d (by
      simp only [Finset.mem_insert, Finset.mem_singleton, not_or]
      exact ⟨fun h => hd 23 (by decide) (e0.trans h.symm), fun h => hd 22 (by decide) (e1.trans h.symm)⟩) hne)
  rw [← e0, ← e1, ← e2]
  constructor
  · rintro ⟨i, hi, rfl⟩ hor
    rcases hor with h | h | h <;> · have := hinj h; subst this; exact absurd hi (by decide)
  · intro hno
    obtain ⟨i, rfl⟩ := hsurj d
    refine ⟨i, ?_, rfl⟩
    by_contra hc
    have : i = 23 ∨ i = 22 ∨ i = 21 := by
      have := i.isLt
      rcases i with ⟨i, hi⟩
      simp only [Fin.ext_iff, not_lt] at *
      omega
    rcases this with h | h | h <;> subst h <;> simp at hno

/-- Three drops never take every `⊤` of a row of 24: where the row holds a `⊤`, so does what is kept. -/
theorem top_kept {x : Fin 24 → EReal} (hx : ∃ d, x d = ⊤) {m0 m1 m2 : Fin 24} (h0 : IsDrop x m0) (h1 : IsDrop (dropped x m0) m1)
    (h2 : IsDrop (dropped (dropped x m0) m1) m2) : ∃ d, ¬ (d = m0 ∨ d = m1 ∨ d = m2) ∧ x d = ⊤ := by
  obtain ⟨e, he⟩ : ∃ e : Fin 24, ¬ (e = m0 ∨ e = m1 ∨ e = m2) := by
    revert m0 m1 m2
    intro m0 m1 m2 _ _ _
    by_contra hc
    push Not at hc
    have : (Finset.univ : Finset (Fin 24)) ⊆ {m0, m1, m2} := fun d _ => by simpa using hc d
    have := (Finset.card_le_card this).trans Finset.card_le_three
    simp at this
  have ne := not_or.mp he
  have ne' := not_or.mp ne.2
  obtain ⟨d, hd⟩ := hx
  by_cases c0 : d = m0
  · subst c0
    exact ⟨e, he, top_le_iff.mp (hd ▸ h0.1 e)⟩
  by_cases c1 : d = m1
  · subst c1
    have := h1.1 e
    simp only [dropped, if_neg c0, if_neg ne.1, hd, top_le_iff] at this
    exact ⟨e, he, this⟩
  by_cases c2 : d = m2
  · subst c2
    have := h2.1 e
    simp only [dropped, if_neg c0, if_neg c1, if_neg ne.1, if_neg ne'.1, hd, top_le_iff] at this
    exact ⟨e, he, this⟩
  · exact ⟨d, by simp [c0, c1, c2], hd⟩

/-- The first place of the stable sort holds a greatest entry. -/
theorem sorted_first {x : Fin 24 → EReal} (d : Fin 24) : x d ≤ x (sortedFrom (fun p q => decide (x q < x p)) 0) := by
  obtain ⟨i, rfl⟩ := sortedFrom_surjective (fun p q => decide (x q < x p)) d
  by_cases h : i = 0
  · rw [h]
  · rcases ahead_sortedFrom x 0 i (Fin.pos_iff_ne_zero.mpr h) with h | ⟨h, -⟩
    · exact h.le
    · exact h.symm.le

end Cert.ChannelAttn
-- ==== Proof.Soft.lean ====
/-
  Region 2: dropping the three smallest entries of a row and taking the softmax of the rest.
-/
module

public import proofs.«01_k».proof.Proof.Conv
public import proofs.«01_k».proof.Proof.Drop

@[expose] public section

set_option maxRecDepth 16384

noncomputable section

namespace Cert.ChannelAttn

open Idealize.ShloMosaic Idealize.ShloMosaic.TcCoe Cert.KernelIdeal Cert.KernelIdeal.Gen

/-- The word of `⊤`. -/
theorem top_word : FloatOps.ofBits (F := Ideal) .f32 0x7F800000#32 = (⊤ : EReal) := by
  simp [FloatOps.ofBits, Ideal.ofBits, Ideal.ieee]

/-- The word of `⊥`. -/
theorem bot_word : FloatOps.ofBits (F := Ideal) .f32 0xFF800000#32 = (⊥ : EReal) := by
  simp [FloatOps.ofBits, Ideal.ofBits, Ideal.ieee]

/-- The signed maximum of two words is the one whose number is the maximum. -/
theorem maxsi_toInt (a b : BitVec 32) : (IntOp.maxsi a b).toInt = max a.toInt b.toInt := by
  unfold IntOp.maxsi
  by_cases h : b.slt a
  · rw [if_pos h, max_eq_left (BitVec.slt_iff_toInt_lt.mp h).le]
  · rw [if_neg h, max_eq_right (not_lt.mp fun h' => h (BitVec.slt_iff_toInt_lt.mpr h'))]

/-- The largest position marked in a row of 24, as the signed maximum of words. -/
theorem last_word (P : Fin 24 → Prop) [DecidablePred P] (h : ∃ d, P d) :
    ∃ m, P m ∧ (∀ d, P d → d ≤ m) ∧
      Finset.univ.fold IntOp.maxsi (2147483648#32) (fun d : Fin 24 => if P d then BitVec.ofNat 32 d.val else 4294967295#32) = BitVec.ofNat 32 m.val := by
  obtain ⟨m, hm, hmax⟩ := Finset.exists_max_image (Finset.univ.filter P) id (by simpa [Finset.filter_nonempty_iff] using h)
  have hPm : P m := (Finset.mem_filter.mp hm).2
  refine ⟨m, hPm, fun d hd => hmax d (by simpa using hd), ?_⟩
  have hword : ∀ d : Fin 24, (BitVec.ofNat 32 d.val).toInt = d.val := by decide
  apply BitVec.eq_of_toInt_eq
  rw [← Finset.fold_hom (op' := max) maxsi_toInt, hword]
  apply le_antisymm
  · rw [Finset.fold_max_le]
    refine ⟨by have : (2147483648#32).toInt = -2147483648 := by decide
               rw [this]; omega, fun d _ => ?_⟩
    split
    · next hd =>
      rw [hword]
      have : d ≤ m := hmax d (by simpa using hd)
      exact_mod_cast this
    · have : (4294967295#32).toInt = -1 := by decide
      omega
  · rw [Finset.le_fold_max]
    exact Or.inr ⟨m, Finset.mem_univ _, by rw [if_pos hPm, hword]⟩

/-- The last position of the smallest entry of each row, as a word. -/
def lastMin (x : FVec Ideal S96x24 .f32) : IVec S96x1 32 :=
  shapeCast S96x1 (multiReductionI .maxsi [1] S96
    (select (cmpf .oeq x (broadcastTo S96x24 (shapeCast S96x1 (multiReduction .minimumf [1] S96 x 0x7F800000#32 reduces_S96x24_S96 (.inl rfl) rfl)
      shapeCasts_S96_S96x1) broadcasts_S96x1_S96x24)) (iota .tc S96x24 32 [1] iota_S96x24_d1_w32) (broadcast S96x24 4294967295#32))
    2147483648#32 reduces_S96x24_S96 rfl) shapeCasts_S96_S96x1

/-- The word found is the position a drop takes. -/
theorem lastMin_read (x : FVec Ideal S96x24 .f32) (o : Fin 96) :
    ∃ m : Fin 24, IsDrop (fun d => x (ix2 o d)) m ∧ lastMin x (ix2 o 0) = BitVec.ofNat 32 m.val := by
  have hmin : ∃ d, x (ix2 o d) = Finset.fold min (FloatOps.ofBits (F := Ideal) .f32 0x7F800000#32) (fun d : Fin 24 => x (ix2 o d)) Finset.univ := by
    obtain ⟨d, -, hd⟩ := Finset.exists_min_image (Finset.univ : Finset (Fin 24)) (fun d => (x (ix2 o d) : EReal)) ⟨0, Finset.mem_univ _⟩
    refine ⟨d, le_antisymm ?_ ?_⟩
    · rw [Finset.le_fold_min, top_word]
      exact ⟨le_top, hd⟩
    · rw [Finset.fold_min_le]
      exact Or.inr ⟨d, Finset.mem_univ _, le_rfl⟩
  obtain ⟨m, hm, hmax, hw⟩ := last_word _ hmin
  refine ⟨m, ⟨fun d => ?_, fun d hd => hmax d (hd.trans hm)⟩, ?_⟩
  · show (x (ix2 o m) : EReal) ≤ x (ix2 o d)
    rw [hm, Finset.fold_min_le]
    exact Or.inr ⟨d, Finset.mem_univ _, le_rfl⟩
  · rw [← hw]
    pointwise [lastMin]

/-- The positions equal to the word of their row. -/
def isIdx (m : IVec S96x1 32) : IVec S96x24 1 := cmpi .eq (iota .tc S96x24 32 [1] iota_S96x24_d1_w32) (broadcastTo S96x24 m broadcasts_S96x1_S96x24)

/-- The rows with the entry at the word's position replaced by `⊤`. -/
def hide (m : IVec S96x1 32) (x : FVec Ideal S96x24 .f32) : FVec Ideal S96x24 .f32 :=
  select (isIdx m) (broadcast S96x24 (Named.named (F := Ideal) κ "big" (φ := .f32) 0x7F61B1E6#32)) x

/-- The scaled products. -/
def scaled (g : FVec Ideal S1x96x24 .f32) (t : FVec Ideal S96x1 .f32) : FVec Ideal S96x24 .f32 := k2_pay2 (F := Ideal) g t

/-- Region 2's row softmax of the entries not dropped. -/
def softOut (g : FVec Ideal S1x96x24 .f32) (t : FVec Ideal S96x1 .f32) : FVec Ideal S1x96x24 .f32 :=
  k2_pay1 (F := Ideal) (k2_pay2 g t) (iota .tc S96x24 32 [1] iota_S96x24_d1_w32) (k2_pay6 (F := Ideal) g t) (k2_pay7 (F := Ideal) g t)

/-- The first two drops and the third. -/
theorem softOut_eq (g : FVec Ideal S1x96x24 .f32) (t : FVec Ideal S96x1 .f32) :
    softOut g t = k2_pay1 (F := Ideal) (scaled g t) (iota .tc S96x24 32 [1] iota_S96x24_d1_w32)
      (ori (ori (broadcast S96x24 0#1) (isIdx (lastMin (scaled g t)))) (isIdx (lastMin (hide (lastMin (scaled g t)) (scaled g t)))))
      (lastMin (hide (lastMin (hide (lastMin (scaled g t)) (scaled g t))) (hide (lastMin (scaled g t)) (scaled g t)))) := rfl

/-- The named constant is `⊤`. -/
theorem big_top : Named.named (F := Ideal) κ "big" (φ := .f32) 0x7F61B1E6#32 = ⊤ := IdealRules.named_const.ideal_named_scalar _ _ _ _ rfl

/-- Words of two positions are equal when the positions are. -/
theorem word_eq (e m : Fin 24) : IntOp.cmpi .eq (BitVec.ofNat 32 e.val) (BitVec.ofNat 32 m.val) = if e = m then 1#1 else 0#1 := by
  revert e m
  decide

/-- A hidden row is the dropped row. -/
theorem hide_read (x : FVec Ideal S96x24 .f32) (w : IVec S96x1 32) (o : Fin 96) (m : Fin 24) (h : w (ix2 o 0) = BitVec.ofNat 32 m.val) :
    (fun d => hide w x (ix2 o d)) = dropped (fun d => x (ix2 o d)) m := by
  funext d
  pointwise [hide, isIdx]
  rw [h, word_eq, big_top, dropped]
  split_ifs <;> rfl

/-- Choosing by the word of "none of the three". -/
theorem keep_word (p q r : Prop) [Decidable p] [Decidable q] [Decidable r] (a b : EReal) :
    Scalar.select (IntOp.xori (IntOp.ori (IntOp.ori (IntOp.ori (0#1) (if p then 1#1 else 0#1)) (if q then 1#1 else 0#1)) (if r then 1#1 else 0#1)) 1#1) a b
      = if ¬ (p ∨ q ∨ r) then a else b := by
  by_cases hp : p <;> by_cases hq : q <;> by_cases hr : r <;> simp only [hp, hq, hr, if_true, if_false] <;> simp <;> rfl

/-- The softmax of the entries of a row that are kept, `0` at the others. -/
def softKept (K : Fin 24 → Prop) (x : Fin 24 → EReal) (e : Fin 24) : EReal :=
  letI : DecidablePred K := Classical.decPred K
  let z := fun d => if K d then Ideal.exp (x d - Finset.univ.fold max ⊥ fun k => if K k then x k else ⊥) else 0
  Ideal.div (z e) (∑ d, z d)

/-- The entries a stable sort by descending value puts in the first 21 places. -/
def Top21 (x : Fin 24 → EReal) (d : Fin 24) : Prop := ∃ i : Fin 24, i.val < 21 ∧ sortedFrom (fun p q => decide (x q < x p)) i = d

/-- When an entry kept is `⊤`, the softmax is the quotient of zeros. -/
theorem softKept_top (K : Fin 24 → Prop) (x : Fin 24 → EReal) (e : Fin 24) (h : ∃ d, K d ∧ x d = ⊤) : softKept K x e = Ideal.div 0 0 := by
  classical
  obtain ⟨d, hK, hd⟩ := h
  have hmax : (Finset.univ.fold max ⊥ fun k => if K k then x k else ⊥) = (⊤ : EReal) := by
    rw [eq_top_iff, Finset.le_fold_max]
    exact Or.inr ⟨d, Finset.mem_univ _, by rw [if_pos hK, hd]⟩
  have hz : ∀ d, (if K d then Ideal.exp (x d - Finset.univ.fold max ⊥ fun k => if K k then x k else ⊥) else 0) = 0 := fun d => by
    rw [hmax, sub_eq_add_neg, EReal.neg_top, EReal.add_bot]
    split <;> rfl
  unfold softKept
  dsimp only
  simp only [hz, Finset.sum_const_zero]

/-- What region 2 leaves at an element: the softmax of the scaled row over the first 21 entries. -/
theorem softOut_read (g : FVec Ideal S1x96x24 .f32) (t : FVec Ideal S96x1 .f32) (o : Fin 96) (e : Fin 24) :
    softOut g t (ix3 0 o e)
      = softKept (Top21 fun d => g (ix3 0 o d) * t (ix2 o 0)) (fun d => g (ix3 0 o d) * t (ix2 o 0)) e := by
  have hx : (fun d => scaled g t (ix2 o d)) = fun d => g (ix3 0 o d) * t (ix2 o 0) := by
    funext d
    pointwise [scaled, k2_pay2]
  rw [softOut_eq, ← hx]
  generalize scaled g t = x
  obtain ⟨m0, h0, w0⟩ := lastMin_read x o
  obtain ⟨m1, h1, w1⟩ := lastMin_read (hide (lastMin x) x) o
  rw [hide_read x _ o m0 w0] at h1
  obtain ⟨m2, h2, w2⟩ := lastMin_read (hide (lastMin (hide (lastMin x) x)) (hide (lastMin x) x)) o
  rw [hide_read _ _ o m1 w1, hide_read x _ o m0 w0] at h2
  have hK : softKept (fun d => ¬ (d = m0 ∨ d = m1 ∨ d = m2)) (fun d => x (ix2 o d)) e = softKept (Top21 fun d => x (ix2 o d)) (fun d => x (ix2 o d)) e := by
    by_cases ht : ∃ d, x (ix2 o d) = (⊤ : EReal)
    · rw [softKept_top _ _ _ (top_kept ht h0 h1 h2), softKept_top]
      obtain ⟨d, hd⟩ := ht
      refine ⟨_, ⟨0, by decide, rfl⟩, ?_⟩
      exact top_unique (hd ▸ sorted_first (x := fun d => x (ix2 o d)) d)
    · have : (fun d => ¬ (d = m0 ∨ d = m1 ∨ d = m2)) = Top21 fun d => x (ix2 o d) := by
        funext d
        exact propext (kept_iff (fun d => lt_top_iff_ne_top.mpr fun h => ht ⟨d, h⟩) h0 h1 h2 d).symm
      rw [this]
  rw [← hK]
  generalize lastMin (hide (lastMin (hide (lastMin x) x)) (hide (lastMin x) x)) = l2 at *
  generalize lastMin (hide (lastMin x) x) = l1 at *
  generalize lastMin x = l0 at *
  pointwise [k2_pay1, isIdx]
  have hbot : (0 : EReal) - ⊤ = ⊥ := rfl
  have hword : Ideal.ofBits .f32 4286578688#32 = (⊥ : EReal) := bot_word
  simp only [w0, w1, w2, word_eq, big_top, keep_word, hbot, hword]
  unfold softKept
  dsimp only
  congr!

end Cert.ChannelAttn

end
-- ==== Proof.Region23.lean ====
/-
  The arrays of the third and the fourth region: the scores of each row, and the projected mixtures.
-/
module

public import proofs.«01_k».proof.Proof.Region0
public import proofs.«01_k».proof.Proof.Soft

@[expose] public section

set_option maxRecDepth 16384

noncomputable section

namespace Cert.ChannelAttn

open Idealize.ShloMosaic Idealize.ShloMosaic.TcCoe Cert.KernelIdeal Cert.KernelIdeal.Gen

variable (V : (c : Dev nD) → (b : Ref sig .tc) → Buf (Elt Ideal) ((c : Thread nD τ).loc b))

/-- A row of scaled products. -/
def scaledRow (G : FVec Ideal S2x96x24 .f32) (T : FVec Ideal S96x1 .f32) (b : Fin 2) (o : Fin 96) (e : Fin 24) : EReal := G (ix3 b o e) * T (ix2 o 0)

/-- The scores: the softmax of each scaled row over its first 21 entries. -/
def scores (G : FVec Ideal S2x96x24 .f32) (T : FVec Ideal S96x1 .f32) : FVec Ideal S2x96x24 .f32 :=
  fun y => softKept (Top21 (scaledRow G T (y 0) (y 1))) (scaledRow G T (y 0) (y 1)) (y 2)

/-- The blocks each step of the third call sees. -/
theorem idx2 : ∀ t : Fin cfg2.N, win2_0.index t = ![t.val, 0, 0] ∧ win2_1.index t = ![0, 0] ∧ win2_2.index t = ![t.val, 0, 0] :=
  (by decide +kernel : ∀ t : Fin grid2.N, _)

/-- An index of a one-image block, by its last two coordinates. -/
theorem eq_block {m n : ℕ} (j : (⟨3, ![1, m, n]⟩ : Shape).Idx) : j = ix3 (0 : Fin 1) (j 1) (j 2) := by
  funext a
  fin_cases a
  · exact Subsingleton.elim (α := Fin 1) _ _
  · rfl
  · rfl

/-- A row of a block's scaled products. -/
def blockRow (g : FVec Ideal S1x96x24 .f32) (t : FVec Ideal S96x1 .f32) (o : Fin 96) (e : Fin 24) : EReal := g (ix3 0 o e) * t (ix2 o 0)

/-- The block of scores at any index. -/
theorem softOut_at (g : FVec Ideal S1x96x24 .f32) (t : FVec Ideal S96x1 .f32) (j : S1x96x24.Idx) :
    softOut g t j = softKept (Top21 (blockRow g t (j 1))) (blockRow g t (j 1)) (j 2) :=
  (congrArg (softOut g t) (eq_block j)).trans (softOut_read g t (j 1) (j 2))

/-- The third region's array. -/
theorem final2 (c : Dev nD) : (dat2 V c).arrAt 2 cfg2.N = scores (V c main_v23) (V c main_v20) := by
  refine (dat2 V c).arrAt_eq_of_covers 2 _ (by decide +kernel) fun t hf y => ?_
  blk_simp
  rw [after2_2]
  frame_out
  refine (softOut_at (iblk2 V c 0 t) (iblk2 V c 1 t) y).trans ?_
  have hrow (o o' : Fin 96) (b : Fin 2) (hb : t.val = b.val) (ho : o = o') :
      blockRow (iblk2 V c 0 t) (iblk2 V c 1 t) o = scaledRow (V c main_v23) (V c main_v20) b o' := by
    subst ho
    funext d
    exact congrArg₂ (fun a b : EReal => a * b) (by blk_ext [iblk2, idx2 t]) (by blk_ext [iblk2, idx2 t])
  have h := hrow (y 1) ((win2_2.blk t).view.emb y 1) ((win2_2.blk t).view.emb y 0) (by blk_simp [idx2 t]) (Fin.ext (by blk_simp [idx2 t] <;> omega))
  exact congrArg₂ (fun (r : Fin 24 → EReal) (e : Fin 24) => softKept (Top21 r) r e) h (Fin.ext (by blk_simp [idx2 t] <;> omega))

/-- Row `o` of the projection of the scaled mixtures of the heads' channels, at one pixel. -/
def mix (p : Fin 96 → EReal) (s : Fin 96 → Fin 24 → EReal) (v : Fin 96 → EReal) (a : EReal) : EReal :=
  ∑ k : Fin 96, p k * ((∑ e : Fin 24, s k e * v (inHead k e)) * a)

/-- The projected mixtures. -/
def outs (B : FVec Ideal S2x96x147456 .f32) (w : FVec Ideal S96x96 .bf16) (d : FVec Ideal S96x9 .f32) (S : FVec Ideal S2x96x24 .f32) (P : FVec Ideal S96x96 .bf16)
    (a : FVec Ideal S1x1 .f32) : FVec Ideal S2x96x147456 .f32 :=
  fun y => mix (fun c => P (ix2 (y 1) c)) (fun c e => S (ix3 (y 0) c e)) (fun c => chan B w d (y 0) c (y 2).val) (a (ix2 0 0))

/-- The blocks each step of the fourth call sees: the image and the rows of its strip, and the row before and the row after it. -/
theorem idx3 : ∀ t : Fin cfg3.N, win3_0.index t = ![t.val / 24, 0, t.val % 24] ∧ win3_1.index t = ![t.val / 24, 0, t.val % 24 * 16 - 1]
    ∧ win3_2.index t = ![t.val / 24, 0, min (t.val % 24 * 16 + 16) 383] ∧ win3_3.index t = ![0, 0] ∧ win3_4.index t = ![0, 0]
    ∧ win3_5.index t = ![t.val / 24, 0, 0] ∧ win3_6.index t = ![0, 0] ∧ win3_7.index t = ![0, 0] ∧ win3_8.index t = ![t.val / 24, 0, t.val % 24]
    ∧ (grid3.coords t 1).val = t.val % 24 :=
  (by decide +kernel : ∀ t : Fin grid3.N, _)

/-- The three blocks of the values at a step hold the strip and its two neighbouring rows. -/
theorem hold3 (c : Dev nD) (t : Fin cfg3.N) (b : Fin 2) (hb : t.val / 24 = b.val) :
    Holds (t.val % 24) (img (V c main_v1) b) (iblk3 V c 0 t) (iblk3 V c 1 t) (iblk3 V c 2 t) where
  lt := by omega
  mid c f := by blk_ext [iblk3, img, idx3 t]
  top h c r := by blk_ext [iblk3, img, idx3 t]
  bot h c r := by blk_ext [iblk3, img, idx3 t]

/-- The values' 1×1 matrix is seen whole at every step. -/
theorem w3_3 (c : Dev nD) (t : Fin cfg3.N) : iblk3 V c 3 t = V c main_v9 := by
  funext j; blk_ext [iblk3, idx3 t]
/-- The values' taps are seen whole at every step. -/
theorem w3_4 (c : Dev nD) (t : Fin cfg3.N) : iblk3 V c 4 t = V c main_v14 := by
  funext j; blk_ext [iblk3, idx3 t]
/-- The projection matrix is seen whole at every step. -/
theorem w3_6 (c : Dev nD) (t : Fin cfg3.N) : iblk3 V c 6 t = V c main_v16 := by
  funext j; blk_ext [iblk3, idx3 t]
/-- The last factor is seen whole at every step. -/
theorem w3_7 (c : Dev nD) (t : Fin cfg3.N) : iblk3 V c 7 t = V c main_v21 := by
  funext j; blk_ext [iblk3, idx3 t]

/-- The region's block at any index. -/
def blockOut (xc : FVec Ideal S1x96x6144 .f32) (xt xb : FVec Ideal S1x96x384 .f32) (w : FVec Ideal S96x96 .bf16) (d : FVec Ideal S96x9 .f32) (t : ℕ)
    (s : FVec Ideal S1x96x24 .f32) (a : FVec Ideal S1x1 .f32) (p : FVec Ideal S96x96 .bf16) (o : Fin 96) (f : Fin 6144) : EReal :=
  mix (fun c => p (ix2 o c)) (fun c e => s (ix3 0 c e)) (fun c => blockConv t xc xt xb w d (ix2 c f)) (a (ix2 0 0))

/-- A projected mixture of a block is that of the arrays. -/
theorem out_point (c : Dev nD) (t : Fin cfg3.N) (o o' : Fin 96) (f : Fin 6144) (b : Fin 2) (n : ℕ) (hb : t.val / 24 = b.val) (ho : o = o')
    (hn : t.val % 24 * 6144 + f.val = n) :
    blockOut (iblk3 V c 0 t) (iblk3 V c 1 t) (iblk3 V c 2 t) (iblk3 V c 3 t) (iblk3 V c 4 t) (grid3.coords t 1).val (iblk3 V c 5 t) (iblk3 V c 7 t) (iblk3 V c 6 t) o f
    = mix (fun k => V c main_v16 (ix2 o' k)) (fun k e => V c main_v24 (ix3 b k e)) (fun k => chan (V c main_v1) (V c main_v9) (V c main_v14) b k n) (V c main_v21 (ix2 0 0)) := by
  have hs : (fun (k : Fin 96) (e : Fin 24) => iblk3 V c 5 t (ix3 0 k e)) = fun k e => V c main_v24 (ix3 b k e) := by
    funext k e; blk_ext [iblk3, idx3 t]
  subst ho
  rw [blockOut, (idx3 t).2.2.2.2.2.2.2.2.2, w3_3, w3_4, w3_6, w3_7]
  have hv : (fun k : Fin 96 => blockConv (t.val % 24) (iblk3 V c 0 t) (iblk3 V c 1 t) (iblk3 V c 2 t) (V c main_v9) (V c main_v14) (ix2 k f))
      = fun k => chan (V c main_v1) (V c main_v9) (V c main_v14) b k n :=
    funext fun k => (block_chan (V c main_v1) (hold3 V c t b hb) _ _ _ _).trans (congrArg (chan (V c main_v1) (V c main_v9) (V c main_v14) _ _) hn)
  exact congrArg₂ (fun (s : Fin 96 → Fin 24 → EReal) (v : Fin 96 → EReal) => mix (fun k => V c main_v16 (ix2 o k)) s v (V c main_v21 (ix2 0 0))) hs hv

/-- The fourth region's array. -/
theorem final3 (c : Dev nD) : (dat3 V c).arrAt 8 cfg3.N = outs (V c main_v1) (V c main_v9) (V c main_v14) (V c main_v24) (V c main_v16) (V c main_v21) := by
  refine (dat3 V c).arrAt_eq_of_covers 8 _ (by decide +kernel) fun t hf y => ?_
  blk_simp
  rw [after3_8]
  unfold out3_8 k3_pay14 k3_pay13 k3_pay12 k3_pay11
  frame_out
  have hb : t.val / 24 = ((win3_8.blk t).view.emb y 0 : Fin 2).val := by blk_simp [idx3 t]
  have h1 : (y 1 : Fin 96) = (win3_8.blk t).view.emb y 1 := Fin.ext (by blk_simp [idx3 t] <;> omega)
  have h2 : t.val % 24 * 6144 + (y 2 : Fin 6144).val = ((win3_8.blk t).view.emb y 2 : Fin 147456).val := by blk_simp [idx3 t] <;> omega
  refine (out3 (iblk3 V c 0 t) (iblk3 V c 1 t) (iblk3 V c 2 t) (iblk3 V c 3 t) (iblk3 V c 4 t) (grid3.coords t) (iblk3 V c 5 t) (iblk3 V c 7 t) (iblk3 V c 6 t) y).trans ?_
  exact out_point V c t (y 1) ((win3_8.blk t).view.emb y 1) (y 2) ((win3_8.blk t).view.emb y 0) _ hb h1 h2

end Cert.ChannelAttn

end
-- ==== Proof.Spec.lean ====
/-
  What both programs compute, element by element: the attention over the channels of each head.
-/
module

public import proofs.«01_k».proof.Proof.Region1
public import proofs.«01_k».proof.Proof.Region23

@[expose] public section

noncomputable section

namespace Cert.ChannelAttn

open Idealize.ShloMosaic Idealize.ShloMosaic.TcCoe

/-- Channel `o` of an image at pixel `n`: the depthwise convolution with the taps `d` of the 1×1 convolution with the matrix `w`. -/
def depth (X : Fin 96 → Fin 384 → Fin 384 → EReal) (w : Fin 96 → Fin 96 → EReal) (d : Fin 96 → Fin 9 → EReal) (o : Fin 96) (n : ℕ) : EReal :=
  conv3 (d o) (pix w X o) (n / 384) (n % 384)

/-- A channel at a pixel divided by the channel's clipped norm. -/
def unitOf (Q : Fin 96 → ℕ → EReal) (c : Fin 96) (n : ℕ) : EReal :=
  Ideal.div (Q c n) (max (FloatOps.sqrt (F := Ideal) (φ := .f32) (∑ m : Fin 147456, Q c m * Q c m)) eps)

/-- The scaled products of a channel of the queries with the channels of the keys in its head. -/
def rowOf (Q K : Fin 96 → ℕ → EReal) (T : Fin 96 → EReal) (c : Fin 96) (e : Fin 24) : EReal :=
  (∑ n : Fin 147456, unitOf Q c n * unitOf K (inHead c e) n) * T c

/-- The result at a pixel for one row `p` of the projection. -/
def spec (Q K V : Fin 96 → ℕ → EReal) (T p : Fin 96 → EReal) (a : EReal) (n : ℕ) : EReal :=
  mix p (fun c e => softKept (Top21 (rowOf Q K T c)) (rowOf Q K T c) e) (fun c => V c n) a

/-- The tap numbered `k` of a 3×3 filter. -/
def tapOf {n : ℕ} (d : (⟨4, ![n, 1, 3, 3]⟩ : Shape).Idx → EReal) (o : Fin n) (k : Fin 9) : EReal :=
  d (ix4 o 0 ⟨k.val / 3, by omega⟩ ⟨k.val % 3, by omega⟩)

/-- The channel of the stacked filters that belongs to the keys. -/
def lo (o : Fin 96) : Fin 192 := ⟨o.val, by omega⟩

/-- The channel of the stacked filters that belongs to the values. -/
def hi (o : Fin 96) : Fin 192 := ⟨96 + o.val, by omega⟩

/-- The queries of image `b`. -/
def qOf (x : (⟨4, ![2, 96, 384, 384]⟩ : Shape).Idx → EReal) (w : (⟨4, ![96, 96, 1, 1]⟩ : Shape).Idx → EReal)
    (d : (⟨4, ![96, 1, 3, 3]⟩ : Shape).Idx → EReal) (b : Fin 2) : Fin 96 → ℕ → EReal :=
  depth (fun c h l => x (ix4 b c h l)) (fun o c => w (ix4 o c 0 0)) (tapOf d)

/-- The keys or the values of image `b`, by the channels `f` of the stacked filters. -/
def kvOf (f : Fin 96 → Fin 192) (x : (⟨4, ![2, 96, 384, 384]⟩ : Shape).Idx → EReal) (w : (⟨4, ![192, 96, 1, 1]⟩ : Shape).Idx → EReal)
    (d : (⟨4, ![192, 1, 3, 3]⟩ : Shape).Idx → EReal) (b : Fin 2) : Fin 96 → ℕ → EReal :=
  depth (fun c h l => x (ix4 b c h l)) (fun o c => w (ix4 (f o) c 0 0)) (fun o => tapOf d (f o))

/-- The whole result, from the nine arguments. -/
def attn (x0 x1 : (⟨4, ![2, 96, 384, 384]⟩ : Shape).Idx → EReal) (qw : (⟨4, ![96, 96, 1, 1]⟩ : Shape).Idx → EReal)
    (qd : (⟨4, ![96, 1, 3, 3]⟩ : Shape).Idx → EReal) (kw : (⟨4, ![192, 96, 1, 1]⟩ : Shape).Idx → EReal)
    (kd : (⟨4, ![192, 1, 3, 3]⟩ : Shape).Idx → EReal) (pw : (⟨4, ![96, 96, 1, 1]⟩ : Shape).Idx → EReal)
    (t : (⟨3, ![4, 1, 1]⟩ : Shape).Idx → EReal) (a : (⟨1, ![1]⟩ : Shape).Idx → EReal) : (⟨4, ![2, 96, 384, 384]⟩ : Shape).Idx → EReal :=
  fun y => spec (qOf x0 qw qd (y 0)) (kvOf lo x1 kw kd (y 0)) (kvOf hi x1 kw kd (y 0)) (fun c => t (ix3 ⟨c.val / 24, by omega⟩ 0 0))
    (fun c => pw (ix4 (y 1) c 0 0)) (a (ix1 0)) ((y 2).val * 384 + (y 3).val)

/-- Equal arguments have equal results. -/
theorem attn_congr {x0 y0 x1 y1 : (⟨4, ![2, 96, 384, 384]⟩ : Shape).Idx → EReal} {qw qw' : (⟨4, ![96, 96, 1, 1]⟩ : Shape).Idx → EReal}
    {qd qd' : (⟨4, ![96, 1, 3, 3]⟩ : Shape).Idx → EReal} {kw kw' : (⟨4, ![192, 96, 1, 1]⟩ : Shape).Idx → EReal}
    {kd kd' : (⟨4, ![192, 1, 3, 3]⟩ : Shape).Idx → EReal} {pw pw' : (⟨4, ![96, 96, 1, 1]⟩ : Shape).Idx → EReal}
    {t t' : (⟨3, ![4, 1, 1]⟩ : Shape).Idx → EReal} {a a' : (⟨1, ![1]⟩ : Shape).Idx → EReal} (h0 : x0 = y0) (h1 : x1 = y1) (h2 : qw = qw')
    (h3 : qd = qd') (h4 : kw = kw') (h5 : kd = kd') (h6 : pw = pw') (h7 : t = t') (h8 : a = a') :
    attn x0 x1 qw qd kw kd pw t a = attn y0 y1 qw' qd' kw' kd' pw' t' a' := by
  rw [h0, h1, h2, h3, h4, h5, h6, h7, h8]

end Cert.ChannelAttn

end
-- ==== Proof.Arrays.lean ====
/-
  The arrays the idealised kernel's launch leaves: its result is the attention of its arguments.
-/
module

public import proofs.«01_k».proof.Proof.Spec

@[expose] public section

set_option maxRecDepth 16384

noncomputable section

namespace Cert.ChannelAttn

open Idealize.ShloMosaic Idealize.ShloMosaic.TcCoe Cert.KernelIdeal Cert.KernelIdeal.Gen Idealize.ShloMosaic.StableHlo

variable (m : (ℓ : Loc nD τ sig) → Buf (Elt Ideal) ℓ) (ρ : Dev nD → PrngReg) (c : Dev nD)

/-- The query image as the regions read it. -/
theorem host0 : V1 m ρ c main_v0 = shapeCast S2x96x147456 (m ((c : Thread nD τ).loc main_arg0)) shapeCasts_S2x96x384x384_S2x96x147456 := by
  show StableHlo.after hostOps0 (W0 m ρ c) (Proc.devRef .tc main_v0) = _
  after_results_simp
  rfl

/-- The key and value image as the regions read it. -/
theorem host1 : V1 m ρ c main_v1 = shapeCast S2x96x147456 (m ((c : Thread nD τ).loc main_arg1)) shapeCasts_S2x96x384x384_S2x96x147456 := by
  show StableHlo.after hostOps0 (W0 m ρ c) (Proc.devRef .tc main_v1) = _
  after_results_simp
  rfl

/-- The queries' matrix as the regions read it. -/
theorem host3 : V1 m ρ c main_v3 = (truncf (F := Ideal) (φ := .f32) .bf16 (shapeCast S96x96 (m ((c : Thread nD τ).loc main_arg2)) shapeCasts_S96x96x1x1_S96x96) bitsLt_bf16_f32 : FVec Ideal S96x96 .bf16) := by
  show StableHlo.after hostOps0 (W0 m ρ c) (Proc.devRef .tc main_v3) = _
  after_results_simp
  rfl

/-- The keys' matrix as the regions read it. -/
theorem host6 : V1 m ρ c main_v6 = (truncf (F := Ideal) (φ := .f32) .bf16 (shapeCast S96x96 (extractStridedSlice S96x96x1x1 ![0, 0, 0, 0] (m ((c : Thread nD τ).loc main_arg4)) slices_S192x96x1x1_S96x96x1x1_0_0_0_0) shapeCasts_S96x96x1x1_S96x96) bitsLt_bf16_f32 : FVec Ideal S96x96 .bf16) := by
  show StableHlo.after hostOps0 (W0 m ρ c) (Proc.devRef .tc main_v6) = _
  after_results_simp
  rfl

/-- The values' matrix as the regions read it. -/
theorem host9 : V1 m ρ c main_v9 = (truncf (F := Ideal) (φ := .f32) .bf16 (shapeCast S96x96 (extractStridedSlice S96x96x1x1 ![96, 0, 0, 0] (m ((c : Thread nD τ).loc main_arg4)) slices_S192x96x1x1_S96x96x1x1_96_0_0_0) shapeCasts_S96x96x1x1_S96x96) bitsLt_bf16_f32 : FVec Ideal S96x96 .bf16) := by
  show StableHlo.after hostOps0 (W0 m ρ c) (Proc.devRef .tc main_v9) = _
  after_results_simp
  rfl

/-- The queries' filters as the regions read them. -/
theorem host10 : V1 m ρ c main_v10 = shapeCast S96x9 (m ((c : Thread nD τ).loc main_arg3)) shapeCasts_S96x1x3x3_S96x9 := by
  show StableHlo.after hostOps0 (W0 m ρ c) (Proc.devRef .tc main_v10) = _
  after_results_simp
  rfl

/-- The keys' filters as the regions read them. -/
theorem host12 : V1 m ρ c main_v12 = shapeCast S96x9 (extractStridedSlice S96x1x3x3 ![0, 0, 0, 0] (m ((c : Thread nD τ).loc main_arg5)) slices_S192x1x3x3_S96x1x3x3_0_0_0_0) shapeCasts_S96x1x3x3_S96x9 := by
  show StableHlo.after hostOps0 (W0 m ρ c) (Proc.devRef .tc main_v12) = _
  after_results_simp
  rfl

/-- The values' filters as the regions read them. -/
theorem host14 : V1 m ρ c main_v14 = shapeCast S96x9 (extractStridedSlice S96x1x3x3 ![96, 0, 0, 0] (m ((c : Thread nD τ).loc main_arg5)) slices_S192x1x3x3_S96x1x3x3_96_0_0_0) shapeCasts_S96x1x3x3_S96x9 := by
  show StableHlo.after hostOps0 (W0 m ρ c) (Proc.devRef .tc main_v14) = _
  after_results_simp
  rfl

/-- The projection as the regions read it. -/
theorem host16 : V1 m ρ c main_v16 = (truncf (F := Ideal) (φ := .f32) .bf16 (shapeCast S96x96 (m ((c : Thread nD τ).loc main_arg6)) shapeCasts_S96x96x1x1_S96x96) bitsLt_bf16_f32 : FVec Ideal S96x96 .bf16) := by
  show StableHlo.after hostOps0 (W0 m ρ c) (Proc.devRef .tc main_v16) = _
  after_results_simp
  rfl

/-- The temperatures as the regions read them. -/
theorem host20 : V1 m ρ c main_v20 = shapeCast S96x1 (shapeCast S96 (broadcastInDim S4x24 ![0] bcast_S4_S4x24_0 (shapeCast S4 (m ((c : Thread nD τ).loc main_arg7)) shapeCasts_S4x1x1_S4)) shapeCasts_S4x24_S96) shapeCasts_S96_S96x1 := by
  show StableHlo.after hostOps0 (W0 m ρ c) (Proc.devRef .tc main_v20) = _
  after_results_simp
  rfl

/-- The final scale as the regions read it. -/
theorem host21 : V1 m ρ c main_v21 = shapeCast S1x1 (m ((c : Thread nD τ).loc main_arg8)) shapeCasts_S1_S1x1 := by
  show StableHlo.after hostOps0 (W0 m ρ c) (Proc.devRef .tc main_v21) = _
  after_results_simp
  rfl

/-- A pixel of the query image. -/
theorem read0 (b : Fin 2) (k : Fin 96) (h l : Fin 384) : img (V1 m ρ c main_v0) b k h l = (m ((c : Thread nD τ).loc main_arg0)) (ix4 b k h l) := by
  rw [host0, img]
  pointwise []

/-- A pixel of the key and value image. -/
theorem read1 (b : Fin 2) (k : Fin 96) (h l : Fin 384) : img (V1 m ρ c main_v1) b k h l = (m ((c : Thread nD τ).loc main_arg1)) (ix4 b k h l) := by
  rw [host1, img]
  pointwise []

/-- An entry of the queries' matrix. -/
theorem read3 (o k : Fin 96) : V1 m ρ c main_v3 (ix2 o k) = (m ((c : Thread nD τ).loc main_arg2)) (ix4 o k 0 0) := by
  rw [host3]
  pointwise []

/-- An entry of the keys' matrix. -/
theorem read6 (o k : Fin 96) : V1 m ρ c main_v6 (ix2 o k) = (m ((c : Thread nD τ).loc main_arg4)) (ix4 (lo o) k 0 0) := by
  rw [host6]
  pointwise []
  rfl

/-- An entry of the values' matrix. -/
theorem read9 (o k : Fin 96) : V1 m ρ c main_v9 (ix2 o k) = (m ((c : Thread nD τ).loc main_arg4)) (ix4 (hi o) k 0 0) := by
  rw [host9]
  pointwise []
  rfl

/-- A tap of the queries' filters. -/
theorem read10 (o : Fin 96) (k : Fin 9) : V1 m ρ c main_v10 (ix2 o k) = tapOf (m ((c : Thread nD τ).loc main_arg3)) o k := by
  rw [host10, tapOf]
  pointwise []

/-- A tap of the keys' filters. -/
theorem read12 (o : Fin 96) (k : Fin 9) : V1 m ρ c main_v12 (ix2 o k) = tapOf (m ((c : Thread nD τ).loc main_arg5)) (lo o) k := by
  rw [host12, tapOf]
  pointwise []
  rfl

/-- A tap of the values' filters. -/
theorem read14 (o : Fin 96) (k : Fin 9) : V1 m ρ c main_v14 (ix2 o k) = tapOf (m ((c : Thread nD τ).loc main_arg5)) (hi o) k := by
  rw [host14, tapOf]
  pointwise []
  rfl

/-- An entry of the projection. -/
theorem read16 (o k : Fin 96) : V1 m ρ c main_v16 (ix2 o k) = (m ((c : Thread nD τ).loc main_arg6)) (ix4 o k 0 0) := by
  rw [host16]
  pointwise []

/-- The temperature of a channel. -/
theorem read20 (o : Fin 96) : V1 m ρ c main_v20 (ix2 o 0) = (m ((c : Thread nD τ).loc main_arg7)) (ix3 ⟨o.val / 24, by omega⟩ 0 0) := by
  rw [host20]
  pointwise []

/-- The final scale. -/
theorem read21  : V1 m ρ c main_v21 (ix2 0 0) = (m ((c : Thread nD τ).loc main_arg8)) (ix1 0) := by
  rw [host21]
  pointwise []

/-- A channel's convolutions depend on the image, the matrix and the filter only through their elements. -/
theorem chan_depth {A : FVec Ideal S2x96x147456 .f32} {w : FVec Ideal S96x96 .bf16} {d : FVec Ideal S96x9 .f32} {b : Fin 2}
    {X : Fin 96 → Fin 384 → Fin 384 → EReal} {w' : Fin 96 → Fin 96 → EReal} {d' : Fin 96 → Fin 9 → EReal}
    (hA : ∀ k h l, img A b k h l = X k h l) (hw : ∀ o k, w (ix2 o k) = w' o k) (hd : ∀ o k, d (ix2 o k) = d' o k) : chan A w d b = depth X w' d' := by
  obtain rfl : img A b = X := funext fun k => funext fun h => funext fun l => hA k h l
  obtain rfl : (fun o k => w (ix2 o k)) = w' := funext fun o => funext fun k => hw o k
  obtain rfl : (fun o k => d (ix2 o k)) = d' := funext fun o => funext fun k => hd o k
  rfl

/-- What the four regions compute in turn, at a pixel. -/
theorem regions_spec (A B : FVec Ideal S2x96x147456 .f32) (w w' w'' : FVec Ideal S96x96 .bf16) (d d' d'' : FVec Ideal S96x9 .f32) (T : FVec Ideal S96x1 .f32)
    (P : FVec Ideal S96x96 .bf16) (a : FVec Ideal S1x1 .f32) (b : Fin 2) (o : Fin 96) (n : Fin 147456) :
    outs B w'' d'' (scores (grams A B w w' d d' (norms A w d) (norms B w' d')) T) P a (ix3 b o n)
      = spec (chan A w d b) (chan B w' d' b) (chan B w'' d'' b) (fun k => T (ix2 k 0)) (fun k => P (ix2 o k)) (a (ix2 0 0)) n := rfl

set_option maxHeartbeats 2000000 in
/-- The result buffer holds the attention of the arguments. -/
theorem result : W6 m ρ c (Proc.devRef .tc main_v26) = attn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) := by
  have e26 : W6 m ρ c (Proc.devRef .tc main_v26) = shapeCast S2x96x384x384 (V5 m ρ c main_v25) shapeCasts_S2x96x147456_S2x96x384x384 := by
    show StableHlo.after hostOps4 (W5 m ρ c) (Proc.devRef .tc main_v26) = _
    after_results_simp
    rfl
  have up2 (r : Ref sig .tc) (h : ∀ w : Fin cfg0.W, Pipeline.arrRef spec0 w = r → (cfg0.win w).isOut = false) : V2 m ρ c r = V1 m ρ c r := W2_of m ρ c r h
  have up3 (r : Ref sig .tc) (h : ∀ w : Fin cfg1.W, Pipeline.arrRef spec1 w = r → (cfg1.win w).isOut = false) : V3 m ρ c r = V2 m ρ c r := W3_of m ρ c r h
  have up4 (r : Ref sig .tc) (h : ∀ w : Fin cfg2.W, Pipeline.arrRef spec2 w = r → (cfg2.win w).isOut = false) : V4 m ρ c r = V3 m ρ c r := W4_of m ρ c r h
  have e25 : V5 m ρ c main_v25 = _ := (hF3 m ρ c 8).symm.trans (final3 (V4 m ρ) c)
  have e24 : V4 m ρ c main_v24 = _ := (hF2 m ρ c 2).symm.trans (final2 (V3 m ρ) c)
  have e23 : V3 m ρ c main_v23 = _ := (hF1 m ρ c 12).symm.trans (final1 (V2 m ρ) c)
  have eq : V2 m ρ c main_v22_0 = _ := (hF0 m ρ c 10).symm.trans (final0_10 (V1 m ρ) c)
  have ek : V2 m ρ c main_v22_1 = _ := (hF0 m ρ c 11).symm.trans (final0_11 (V1 m ρ) c)
  rw [e26, e25, e24, e23, eq, ek,
    up4 main_v1 (by decide), up4 main_v9 (by decide), up4 main_v14 (by decide), up4 main_v16 (by decide), up4 main_v21 (by decide),
    up3 main_v1 (by decide), up3 main_v9 (by decide), up3 main_v14 (by decide), up3 main_v16 (by decide), up3 main_v21 (by decide), up3 main_v20 (by decide),
    up2 main_v0 (by decide), up2 main_v1 (by decide), up2 main_v3 (by decide), up2 main_v6 (by decide), up2 main_v9 (by decide), up2 main_v10 (by decide),
    up2 main_v12 (by decide), up2 main_v14 (by decide), up2 main_v16 (by decide), up2 main_v20 (by decide), up2 main_v21 (by decide)]
  funext y
  obtain ⟨b, o, h, l, rfl⟩ : ∃ (b : Fin 2) (o : Fin 96) (h l : Fin 384), y = ix4 b o h l := ⟨y 0, y 1, y 2, y 3, by funext a; fin_cases a <;> rfl⟩
  have hs (u : FVec Ideal S2x96x147456 .f32) : shapeCast S2x96x384x384 u shapeCasts_S2x96x147456_S2x96x384x384 (ix4 b o h l)
      = u (ix3 b o ⟨h.val * 384 + l.val, by omega⟩) := by pointwise []
  refine (hs _).trans ((regions_spec _ _ _ _ _ _ _ _ _ _ _ b o _).trans ?_)
  have hq := chan_depth (b := b) (read0 m ρ c b) (read3 m ρ c) (read10 m ρ c)
  have hk := chan_depth (b := b) (read1 m ρ c b) (read6 m ρ c) (read12 m ρ c)
  have hv := chan_depth (b := b) (read1 m ρ c b) (read9 m ρ c) (read14 m ρ c)
  have ht : (fun k : Fin 96 => V1 m ρ c main_v20 (ix2 k 0)) = _ := funext fun k => read20 m ρ c k
  have hp : (fun k : Fin 96 => V1 m ρ c main_v16 (ix2 o k)) = _ := funext fun k => read16 m ρ c o k
  exact congr (congr (congr (congr (congr (congr (congrArg spec hq) hk) hv) ht) hp) (read21 m ρ c)) rfl

end Cert.ChannelAttn

end
-- ==== Proof.Run.lean ====
/-
  The run of the idealised kernel: it ends with the attention of its arguments.
-/
module

public import proofs.«01_k».proof.Proof.Arrays

@[expose] public section

set_option maxRecDepth 16384

noncomputable section

namespace Cert.ChannelAttn

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- Every run of the idealised kernel ends with the attention of the arguments in the result buffer, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v26) = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v26 (by decide))).trans (result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.ChannelAttn

end
-- ==== Proof.RefConv.lean ====
/-
  The reference's convolutions read at an element: the queries, the keys and the values.
-/
module

public import proofs.«01_k».proof.Proof.Spec
public import proofs.«01_k».proof.Proof.Gen.ReferenceIdeal.Run

@[expose] public section

set_option maxRecDepth 16384

noncomputable section

namespace Cert.ChannelAttn

open Idealize.ShloMosaic Idealize.ShloMosaic.TcCoe Cert.ReferenceIdeal Cert.ReferenceIdeal.Gen Cert.ReferenceIdeal.Value

variable (V : Valuation τ sig (Elt Ideal))

/-- The nine products with the values of a padded image, summed in the order of the taps, are the convolution. -/
theorem taps_sum (D : Fin 9 → EReal) (P : Fin 386 → Fin 386 → EReal) (Y : Fin 384 → Fin 384 → EReal) (hP : ∀ i j : Fin 386, P i j = tap Y i j 0 0)
    (h l : ℕ) (hh : h < 384) (hl : l < 384) :
    D 0 * P ⟨h, by omega⟩ ⟨l, by omega⟩ + D 1 * P ⟨h, by omega⟩ ⟨1 + l, by omega⟩ + D 2 * P ⟨h, by omega⟩ ⟨2 + l, by omega⟩ + D 3 * P ⟨1 + h, by omega⟩ ⟨l, by omega⟩ + D 4 * P ⟨1 + h, by omega⟩ ⟨1 + l, by omega⟩
      + D 5 * P ⟨1 + h, by omega⟩ ⟨2 + l, by omega⟩ + D 6 * P ⟨2 + h, by omega⟩ ⟨l, by omega⟩ + D 7 * P ⟨2 + h, by omega⟩ ⟨1 + l, by omega⟩ + D 8 * P ⟨2 + h, by omega⟩ ⟨2 + l, by omega⟩
      = conv3 D Y h l := by
  have shift (di dj : ℕ) : tap Y (di + h) (dj + l) 0 0 = tap Y h l di dj := by simp only [tap, Nat.add_comm di h, Nat.add_comm dj l, Nat.add_zero]
  have down (di : ℕ) : tap Y (di + h) l 0 0 = tap Y h l di 0 := by simp only [tap, Nat.add_comm di h, Nat.add_zero]
  have right (dj : ℕ) : tap Y h (dj + l) 0 0 = tap Y h l 0 dj := by simp only [tap, Nat.add_comm dj l, Nat.add_zero]
  simp only [hP, shift, down, right]
  rw [conv3, zero_add]

/-- The 1×1 convolution at a pixel, for one row of its matrix. -/
def plane (w : Fin 96 → EReal) (X : Fin 96 → Fin 384 → Fin 384 → EReal) (h l : Fin 384) : EReal := ∑ c, w c * X c h l

/-- A value that is guarded by the bounds of the image and `0` outside it. -/
theorem guard_tap (Y : Fin 384 → Fin 384 → EReal) (i j : ℕ) (z : EReal) (hz : z = 0) (g : (h : (1 ≤ i ∧ i - 1 < 384) ∧ 1 ≤ j ∧ j - 1 < 384) → EReal)
    (hg : ∀ h, g h = Y ⟨i - 1, h.1.2⟩ ⟨j - 1, h.2.2⟩) : (if h : (1 ≤ i ∧ i - 1 < 384) ∧ 1 ≤ j ∧ j - 1 < 384 then g h else z) = tap Y i j 0 0 := by
  unfold tap
  by_cases h : (1 ≤ i ∧ i - 1 < 384) ∧ 1 ≤ j ∧ j - 1 < 384
  · rw [dif_pos h, dif_pos (by omega), hg]
    rfl
  · rw [dif_neg h, dif_neg (by omega), hz]

/-- The padding's word is zero. -/
theorem pad_word : FloatOps.sitofp (F := Ideal) .f32 0#32 = (0 : EReal) := by
  simp [FloatOps.sitofp]

/-- The padded 1×1 convolution of the queries' image. -/
theorem padQ (b : Fin 2) (o : Fin 96) (i j : Fin 386) : (res_main_v3 V : FVec Ideal S2x96x386x386 .f32) (ix4 b o i j)
    = tap (pix (fun o c => V (Proc.devRef .tc main_arg2) (ix4 o c 0 0)) (fun c h l => V (Proc.devRef .tc main_arg0) (ix4 b c h l)) o) i j 0 0 := by
  pointwise [res_main_v3]
  exact guard_tap _ _ _ _ pad_word _ fun h => Fin.sum_fin_congr fun c => mul_comm _ _

/-- The padded 1×1 convolution of the keys' and values' image. -/
theorem padKV (b : Fin 2) (o : Fin 192) (i j : Fin 386) : (res_main_v71 V : FVec Ideal S2x192x386x386 .f32) (ix4 b o i j)
    = tap (plane (fun c => V (Proc.devRef .tc main_arg4) (ix4 o c 0 0)) fun c h l => V (Proc.devRef .tc main_arg1) (ix4 b c h l)) i j 0 0 := by
  pointwise [res_main_v71]
  exact guard_tap _ _ _ _ pad_word _ fun h => Fin.sum_fin_congr fun c => mul_comm _ _

/-- The keys' and values' channels. -/
theorem convKV (b : Fin 2) (o : Fin 192) (h l : Fin 384) : (res_main_v135 V : FVec Ideal S2x192x384x384 .f32) (ix4 b o h l)
    = conv3 (tapOf (V (Proc.devRef .tc main_arg5)) o)
      (plane (fun c => V (Proc.devRef .tc main_arg4) (ix4 o c 0 0)) fun c h l => V (Proc.devRef .tc main_arg1) (ix4 b c h l)) h l := by
  pointwise [res_main_v135]
  exact taps_sum (tapOf (V (Proc.devRef .tc main_arg5)) o) (fun i j => (res_main_v71 V : FVec Ideal S2x192x386x386 .f32) (ix4 b o i j)) _ (padKV V b o) h l h.isLt l.isLt

/-- The queries' channels. -/
theorem convQ (b : Fin 2) (o : Fin 4) (e : Fin 24) (n : Fin 147456) : (res_main_v138 V : FVec Ideal S2x4x24x147456 .f32) (ix4 b o e n)
    = qOf (V (Proc.devRef .tc main_arg0)) (V (Proc.devRef .tc main_arg2)) (V (Proc.devRef .tc main_arg3)) b ⟨o.val * 24 + e.val, by omega⟩ n := by
  pointwise [res_main_v138]
  exact taps_sum (tapOf (V (Proc.devRef .tc main_arg3)) ⟨o.val * 24 + e.val, by omega⟩)
    (fun i j => (res_main_v3 V : FVec Ideal S2x96x386x386 .f32) (ix4 b ⟨o.val * 24 + e.val, by omega⟩ i j)) _ (padQ V b _) (n.val / 384) (n.val % 384) (by omega) (by omega)

/-- The keys' channels. -/
theorem convK (b : Fin 2) (o : Fin 4) (e : Fin 24) (n : Fin 147456) : (res_main_v139 V : FVec Ideal S2x4x24x147456 .f32) (ix4 b o e n)
    = kvOf lo (V (Proc.devRef .tc main_arg1)) (V (Proc.devRef .tc main_arg4)) (V (Proc.devRef .tc main_arg5)) b ⟨o.val * 24 + e.val, by omega⟩ n := by
  pointwise [res_main_v139]
  exact convKV V b _ _ _

/-- The values' channels. -/
theorem convV (b : Fin 2) (o : Fin 4) (e : Fin 24) (n : Fin 147456) :
    (shapeCast S2x4x24x147456 (extractStridedSlice S2x96x384x384 ![0, 96, 0, 0] (res_main_v135 V : FVec Ideal S2x192x384x384 .f32) slices_S2x192x384x384_S2x96x384x384_0_96_0_0)
      shapeCasts_S2x96x384x384_S2x4x24x147456) (ix4 b o e n)
    = kvOf hi (V (Proc.devRef .tc main_arg1)) (V (Proc.devRef .tc main_arg4)) (V (Proc.devRef .tc main_arg5)) b ⟨o.val * 24 + e.val, by omega⟩ n := by
  pointwise []
  exact convKV V b _ _ _

end Cert.ChannelAttn

end
-- ==== Proof.RefAttn.lean ====
/-
  The reference's scores and result read at an element.
-/
module

public import proofs.«01_k».proof.Proof.RefConv

@[expose] public section

set_option maxRecDepth 16384

noncomputable section

namespace Cert.ChannelAttn

open Idealize.ShloMosaic Idealize.ShloMosaic.TcCoe Cert.ReferenceIdeal Cert.ReferenceIdeal.Gen Cert.ReferenceIdeal.Value

/-- The comparison "greater" of two values, as a truth value. -/
theorem gt_word (a b : EReal) : (FloatOps.cmpfTotal (F := Ideal) (φ := .f32) .gt a b == 1#1) = decide (b < a) := by
  by_cases h : b < a
  · simp [FloatOps.cmpfTotal, Ideal.cmpTotal, Ideal.cmp, CmpDirection.ordered, h]
  · simp [FloatOps.cmpfTotal, Ideal.cmpTotal, Ideal.cmp, CmpDirection.ordered, h]

/-- The positions in a list of largest entries, at an element `j` that the cut takes from `J`: the position a stable sort of `J`'s fibre puts there. -/
theorem topK_positions {α : Type} {s t : Shape} (d : ℕ) (hd : d < s.rank) (gt : α → α → BitVec 1) (x : s.Idx → α) (h : s.Slices (fun _ => 0) t)
    (j : t.Idx) (J : s.Idx) (hJ : ∀ f : s.Idx → BitVec 32, extractStridedSlice t (fun _ => 0) f h j = f J) :
    (Host.topK t d gt x h).2 j
      = BitVec.ofNat 32 (sortedFrom (fun k k' => gt (x (J.along ⟨d, hd⟩ k)) (x (J.along ⟨d, hd⟩ k')) == 1#1) (J ⟨d, hd⟩)).val := by
  unfold Host.topK
  refine (hJ _).trans ?_
  unfold Host.sort2
  rw [dif_pos hd]
  dsimp only
  rw [dif_pos hd]
  unfold iotaInDim Shape.Idx.along
  rw [Function.update_self]

/-- The word of place `i` in the list of the 21 largest of a row: the position a stable sort by descending value puts there. -/
theorem top_word_read (x : FVec Ideal S2x4x24x24 .f32) (b : Fin 2) (o : Fin 4) (e : Fin 24) (i : Fin 21) :
    (Host.topK S2x4x24x21 3 (FloatOps.cmpfTotal .gt) x sliceFits_S2x4x24x24_S2x4x24x21).2 (ix4 b o e i)
      = BitVec.ofNat 32 (sortedFrom (fun p q : Fin 24 => decide (x (ix4 b o e q) < x (ix4 b o e p))) ⟨i.val, by omega⟩).val := by
  have halong : ∀ k : Fin 24, Shape.Idx.along (s := S2x4x24x24) (ix4 b o e (⟨i.val, by omega⟩ : Fin 24)) (3 : Fin 4) k = ix4 b o e k := fun k => by
    funext a
    fin_cases a <;> rfl
  have hfrom : (fun k k' : Fin 24 => FloatOps.cmpfTotal (F := Ideal) (φ := .f32) .gt
        (x (Shape.Idx.along (s := S2x4x24x24) (ix4 b o e (⟨i.val, by omega⟩ : Fin 24)) (3 : Fin 4) k))
        (x (Shape.Idx.along (s := S2x4x24x24) (ix4 b o e (⟨i.val, by omega⟩ : Fin 24)) (3 : Fin 4) k')) == 1#1)
      = fun p q => decide (x (ix4 b o e q) < x (ix4 b o e p)) := by
    funext p q
    rw [halong, halong]
    exact gt_word _ _
  refine (topK_positions (s := S2x4x24x24) 3 (by decide) _ x _ (ix4 b o e i) (ix4 b o e (⟨i.val, by omega⟩ : Fin 24)) fun f => ?_).trans ?_
  · pointwise []
  · exact congrArg (fun R : Fin 24 → Fin 24 → Bool => BitVec.ofNat 32 (sortedFrom R ⟨i.val, by omega⟩).val) hfrom

/-- The disjunction of bits, one for each of 21 places, is set when one of them is. -/
theorem or_word (P : Fin 21 → Prop) [DecidablePred P] :
    Finset.fold IntOp.ori (0#1) (fun i => if P i then 1#1 else 0#1) Finset.univ = if ∃ i, P i then 1#1 else 0#1 := by
  have h : ∀ s : Finset (Fin 21), Finset.fold IntOp.ori (0#1) (fun i => if P i then 1#1 else 0#1) s = if ∃ i ∈ s, P i then 1#1 else 0#1 := by
    intro s
    induction s using Finset.induction_on with
    | empty => simp
    | insert a s ha ih =>
      rw [Finset.fold_insert ha, ih]
      by_cases h1 : P a <;> by_cases h2 : ∃ i ∈ s, P i <;> simp [h1, h2, IntOp.ori]
  simpa using h Finset.univ

/-- Exponentials of a row's entries less the row's largest. -/
theorem exp_read (x : FVec Ideal S2x4x24x24 .f32) (b : Fin 2) (o : Fin 4) (e d : Fin 24) :
    (Host.exp (subf x (broadcastInDim S2x4x24x24 ![0, 1, 2, 3] bcast_S2x4x24x1_S2x4x24x24_0_1_2_3 (broadcastInDim S2x4x24x1 ![0, 1, 2] bcast_S2x4x24_S2x4x24x1_0_1_2
      (maximumf (broadcastInDim S2x4x24 ![] bcast_S_S2x4x24 (constant S_ .f32 0xFF800000#32))
        (Host.reduce FloatOps.maximumf x (constant S_ .f32 0xFF800000#32) reducesTo_S2x4x24x24_S2x4x24_d3 h_S_)))))
        : FVec Ideal S2x4x24x24 .f32) (ix4 b o e d)
      = Ideal.exp (x (ix4 b o e d) - Finset.univ.fold max ⊥ fun k : Fin 24 => x (ix4 b o e k)) := by
  have hword : Ideal.ofBits .f32 4286578688#32 = (⊥ : EReal) := bot_word
  pointwise []
  rw [hword, max_eq_right bot_le]

/-- The entries of a row that are not among its 21 largest replaced by `⊥`. -/
theorem mask_read (x : FVec Ideal S2x4x24x24 .f32) (b : Fin 2) (o : Fin 4) (e d : Fin 24) [Decidable (Top21 (fun d => x (ix4 b o e d)) d)] :
    (select (Host.reduce IntOp.ori (cmpi .eq (broadcastInDim S2x4x24x21x24 ![0, 1, 2, 3, 4] bcast_S2x4x24x21x1_S2x4x24x21x24_0_1_2_3_4
      (broadcastInDim S2x4x24x21x1 ![0, 1, 2, 3] bcast_S2x4x24x21_S2x4x24x21x1_0_1_2_3
        ((Host.topK S2x4x24x21 3 (FloatOps.cmpfTotal .gt) x sliceFits_S2x4x24x24_S2x4x24x21).2)))
      (broadcastInDim S2x4x24x21x24 ![0, 1, 2, 3, 4] bcast_S1x1x1x1x24_S2x4x24x21x24_0_1_2_3_4 (iotaInDim S1x1x1x1x24 32 4)))
      (constantI S_ 1 0#1) reducesTo_S2x4x24x21x24_S2x4x24x24_d3 h_S_) x
      (broadcastInDim S2x4x24x24 ![] bcast_S_S2x4x24x24 (constant S_ .f32 0xFF800000#32)) : FVec Ideal S2x4x24x24 .f32) (ix4 b o e d)
      = if Top21 (fun d => x (ix4 b o e d)) d then x (ix4 b o e d) else ⊥ := by
  classical
  have hword : Ideal.ofBits .f32 4286578688#32 = (⊥ : EReal) := bot_word
  pointwise []
  simp only [top_word_read, word_eq]
  rw [or_word, hword]
  have hiff : (∃ i : Fin 21, sortedFrom (fun p q : Fin 24 => decide (x (ix4 b o e q) < x (ix4 b o e p))) ⟨i.val, by omega⟩ = d)
      ↔ Top21 (fun d => x (ix4 b o e d)) d :=
    ⟨fun ⟨i, hi⟩ => ⟨⟨i.val, by omega⟩, i.isLt, hi⟩, fun ⟨i, hi, h⟩ => ⟨⟨i.val, hi⟩, h⟩⟩
  by_cases h : Top21 (fun d => x (ix4 b o e d)) d
  · rw [if_pos h, if_pos (hiff.mpr h)]
    rfl
  · rw [if_neg h, if_neg (fun h' => h (hiff.mp h'))]
    rfl

/-- The difference of `⊥` and anything has exponential `0`. -/
theorem exp_bot_sub (M : EReal) : Ideal.exp (⊥ - M) = 0 := by
  rw [sub_eq_add_neg, EReal.bot_add]
  rfl

/-- The quotient of the masked exponentials is the softmax of the entries kept. -/
theorem soft_eq (K : Fin 24 → Prop) [DecidablePred K] (x : Fin 24 → EReal) (e : Fin 24) (z : Fin 24 → EReal)
    (hz : ∀ d, z d = Ideal.exp ((if K d then x d else ⊥) - Finset.univ.fold max ⊥ fun k => if K k then x k else ⊥)) :
    Ideal.div (z e) (∑ d, z d) = softKept K x e := by
  have h : z = fun d => if K d then Ideal.exp (x d - Finset.univ.fold max ⊥ fun k => if K k then x k else ⊥) else 0 := by
    funext d
    rw [hz]
    by_cases hd : K d
    · rw [if_pos hd, if_pos hd]
    · rw [if_neg hd, if_neg hd, exp_bot_sub]
  rw [h]
  unfold softKept
  dsimp only
  congr!

variable (V : Valuation τ sig (Elt Ideal))

/-- Channel `e` of head `o`. -/
def chanOf (o : Fin 4) (e : Fin 24) : Fin 96 := ⟨o.val * 24 + e.val, by omega⟩

/-- The scores of a row before the mask. -/
def scoreRow (b : Fin 2) (o : Fin 4) (e : Fin 24) : Fin 24 → EReal := fun d => (res_main_v152 V : FVec Ideal S2x4x24x24 .f32) (ix4 b o e d)

/-- The exponentials of a row. -/
def expRow (b : Fin 2) (o : Fin 4) (e : Fin 24) : Fin 24 → EReal := fun d => (res_main_v163 V : FVec Ideal S2x4x24x24 .f32) (ix4 b o e d)

/-- The scores before the mask are the scaled products of the normalised channels. -/
theorem refRow (b : Fin 2) (c : Fin 96) :
    scoreRow V b ⟨c.val / 24, by omega⟩ ⟨c.val % 24, by omega⟩
      = rowOf (qOf (V (Proc.devRef .tc main_arg0)) (V (Proc.devRef .tc main_arg2)) (V (Proc.devRef .tc main_arg3)) b)
          (kvOf lo (V (Proc.devRef .tc main_arg1)) (V (Proc.devRef .tc main_arg4)) (V (Proc.devRef .tc main_arg5)) b)
          (fun c => (V (Proc.devRef .tc main_arg7) : FVec Ideal S4x1x1 .f32) (ix3 ⟨c.val / 24, by omega⟩ 0 0)) c := by
  funext d
  have heps : (id (constant (F := Ideal) S_ FTy.f32 730643660#32) ix0 : EReal) = eps := rfl
  have hc : chanOf ⟨c.val / 24, by omega⟩ ⟨c.val % 24, by omega⟩ = c := Fin.ext (by simp only [chanOf]; omega)
  have hq : ∀ n : Fin 147456, (res_main_v138 V : FVec Ideal S2x4x24x147456 .f32) (ix4 b ⟨c.val / 24, by omega⟩ ⟨c.val % 24, by omega⟩ n)
      = qOf (V (Proc.devRef .tc main_arg0)) (V (Proc.devRef .tc main_arg2)) (V (Proc.devRef .tc main_arg3)) b c n := fun n =>
    (convQ V b _ _ n).trans (congrArg (fun c => qOf (V (Proc.devRef .tc main_arg0)) (V (Proc.devRef .tc main_arg2)) (V (Proc.devRef .tc main_arg3)) b c n) hc)
  have hk : ∀ n : Fin 147456, (res_main_v139 V : FVec Ideal S2x4x24x147456 .f32) (ix4 b ⟨c.val / 24, by omega⟩ d n)
      = kvOf lo (V (Proc.devRef .tc main_arg1)) (V (Proc.devRef .tc main_arg4)) (V (Proc.devRef .tc main_arg5)) b (inHead c d) n := convK V b _ _
  unfold scoreRow rowOf unitOf
  simp only [← hq, ← hk]
  pointwise [res_main_v152]
  simp only [heps, max_comm eps]

/-- The masked scores. -/
theorem refMasked (b : Fin 2) (o : Fin 4) (e d : Fin 24) [Decidable (Top21 (scoreRow V b o e) d)] :
    (res_main_v156 V : FVec Ideal S2x4x24x24 .f32) (ix4 b o e d) = if Top21 (scoreRow V b o e) d then scoreRow V b o e d else ⊥ := by
  unfold res_main_v156
  exact @mask_read _ b o e d ‹_›

/-- The quotients of the exponentials are the softmax of the entries kept. -/
theorem refSoft (b : Fin 2) (o : Fin 4) (e d : Fin 24) :
    Ideal.div (expRow V b o e d) (∑ k : Fin 24, expRow V b o e k) = softKept (Top21 (scoreRow V b o e)) (scoreRow V b o e) d := by
  classical
  refine soft_eq _ _ d (expRow V b o e) fun k => ?_
  simp only [← refMasked]
  unfold expRow res_main_v163
  exact exp_read _ b o e k

/-- The reference's result at an element, from its masked exponentials and its values. -/
theorem out_read (z : FVec Ideal S2x4x24x24 .f32) (v : FVec Ideal S2x192x384x384 .f32) (a : FVec Ideal S1 .f32) (w : FVec Ideal S96x96x1x1 .f32)
    (b : Fin 2) (o : Fin 96) (h l : Fin 384) :
    (transpose S2x96x384x384 [0, 3, 1, 2] (Host.dotGeneral (F := Ideal) (φ₁ := .f32) (φ₂ := .f32) dot_S2x96x384x384_S96x96_S2x384x384x96_1_1_023_0_n_n none
      (shapeCast S2x96x384x384 (mulf (Host.dotGeneral (F := Ideal) (φ₁ := .f32) (φ₂ := .f32) dot_S2x4x24x24_S2x4x24x147456_S2x4x24x147456_3_2_2_3_01_01 none
        (Host.divf z (broadcastInDim S2x4x24x24 ![0, 1, 2, 3] bcast_S2x4x24x1_S2x4x24x24_0_1_2_3 (broadcastInDim S2x4x24x1 ![0, 1, 2] bcast_S2x4x24_S2x4x24x1_0_1_2
          (Host.reduceAdd z (constant S_ .f32 0x00000000#32) reducesTo_S2x4x24x24_S2x4x24_d3 h_S_))))
        (shapeCast S2x4x24x147456 (extractStridedSlice S2x96x384x384 ![0, 96, 0, 0] v slices_S2x192x384x384_S2x96x384x384_0_96_0_0) shapeCasts_S2x96x384x384_S2x4x24x147456))
        (broadcastInDim S2x4x24x147456 ![0, 1, 2, 3] bcast_S1x1x1x1_S2x4x24x147456_0_1_2_3 (broadcastInDim S1x1x1x1 ![3] bcast_S1_S1x1x1x1_3 a)))
        shapeCasts_S2x4x24x147456_S2x96x384x384) (shapeCast S96x96 w shapeCasts_S96x96x1x1_S96x96))
      transposes_S2x384x384x96_S2x96x384x384_0_3_1_2 : FVec Ideal S2x96x384x384 .f32) (ix4 b o h l)
      = mix (fun c => w (ix4 o c 0 0))
          (fun c d => Ideal.div (z (ix4 b ⟨c.val / 24, by omega⟩ ⟨c.val % 24, by omega⟩ d)) (∑ k : Fin 24, z (ix4 b ⟨c.val / 24, by omega⟩ ⟨c.val % 24, by omega⟩ k)))
          (fun c => v (ix4 b (hi c) h l)) (a (ix1 0)) := by
  unfold mix
  pointwise []
  refine Finset.sum_congr rfl fun c _ => ?_
  rw [mul_comm]
  rfl

/-- The reference's whole result is the specification of its nine arguments. -/
theorem refOut :
    (transpose S2x96x384x384 [0, 3, 1, 2] (Host.dotGeneral (F := Ideal) (φ₁ := .f32) (φ₂ := .f32) dot_S2x96x384x384_S96x96_S2x384x384x96_1_1_023_0_n_n none
      (shapeCast S2x96x384x384 (mulf (Host.dotGeneral (F := Ideal) (φ₁ := .f32) (φ₂ := .f32) dot_S2x4x24x24_S2x4x24x147456_S2x4x24x147456_3_2_2_3_01_01 none
        (Host.divf (res_main_v163 V : FVec Ideal S2x4x24x24 .f32) (broadcastInDim S2x4x24x24 ![0, 1, 2, 3] bcast_S2x4x24x1_S2x4x24x24_0_1_2_3 (broadcastInDim S2x4x24x1 ![0, 1, 2] bcast_S2x4x24_S2x4x24x1_0_1_2
          (Host.reduceAdd (res_main_v163 V : FVec Ideal S2x4x24x24 .f32) (constant S_ .f32 0x00000000#32) reducesTo_S2x4x24x24_S2x4x24_d3 h_S_))))
        (shapeCast S2x4x24x147456 (extractStridedSlice S2x96x384x384 ![0, 96, 0, 0] (res_main_v135 V : FVec Ideal S2x192x384x384 .f32) slices_S2x192x384x384_S2x96x384x384_0_96_0_0) shapeCasts_S2x96x384x384_S2x4x24x147456))
        (broadcastInDim S2x4x24x147456 ![0, 1, 2, 3] bcast_S1x1x1x1_S2x4x24x147456_0_1_2_3 (broadcastInDim S1x1x1x1 ![3] bcast_S1_S1x1x1x1_3 (V (Proc.devRef .tc main_arg8) : FVec Ideal S1 .f32))))
        shapeCasts_S2x4x24x147456_S2x96x384x384) (shapeCast S96x96 (V (Proc.devRef .tc main_arg6) : FVec Ideal S96x96x1x1 .f32) shapeCasts_S96x96x1x1_S96x96))
      transposes_S2x384x384x96_S2x96x384x384_0_3_1_2 : FVec Ideal S2x96x384x384 .f32)
      = attn (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) (V (Proc.devRef .tc main_arg8)) := by
  funext y
  obtain ⟨b, o, h, l, rfl⟩ : ∃ (b : Fin 2) (o : Fin 96) (h l : Fin 384), y = ix4 b o h l := ⟨y 0, y 1, y 2, y 3, by funext a; fin_cases a <;> rfl⟩
  refine (out_read _ _ _ _ b o h l).trans ?_
  show _ = spec (qOf _ _ _ b) (kvOf lo _ _ _ b) (kvOf hi (V (Proc.devRef .tc main_arg1)) (V (Proc.devRef .tc main_arg4)) (V (Proc.devRef .tc main_arg5)) b) _ _ _ (h.val * 384 + l.val)
  unfold spec
  have hs : (fun (c : Fin 96) (d : Fin 24) => Ideal.div ((res_main_v163 V : FVec Ideal S2x4x24x24 .f32) (ix4 b ⟨c.val / 24, by omega⟩ ⟨c.val % 24, by omega⟩ d))
        (∑ k : Fin 24, (res_main_v163 V : FVec Ideal S2x4x24x24 .f32) (ix4 b ⟨c.val / 24, by omega⟩ ⟨c.val % 24, by omega⟩ k)))
      = fun c e => softKept (Top21 (rowOf (qOf (V (Proc.devRef .tc main_arg0)) (V (Proc.devRef .tc main_arg2)) (V (Proc.devRef .tc main_arg3)) b)
          (kvOf lo (V (Proc.devRef .tc main_arg1)) (V (Proc.devRef .tc main_arg4)) (V (Proc.devRef .tc main_arg5)) b)
          (fun c => (V (Proc.devRef .tc main_arg7) : FVec Ideal S4x1x1 .f32) (ix3 ⟨c.val / 24, by omega⟩ 0 0)) c)) (rowOf (qOf (V (Proc.devRef .tc main_arg0)) (V (Proc.devRef .tc main_arg2)) (V (Proc.devRef .tc main_arg3)) b)
          (kvOf lo (V (Proc.devRef .tc main_arg1)) (V (Proc.devRef .tc main_arg4)) (V (Proc.devRef .tc main_arg5)) b)
          (fun c => (V (Proc.devRef .tc main_arg7) : FVec Ideal S4x1x1 .f32) (ix3 ⟨c.val / 24, by omega⟩ 0 0)) c) e := by
    funext c e
    rw [← refRow]
    exact refSoft V b _ _ e
  have hv : (fun c : Fin 96 => (res_main_v135 V : FVec Ideal S2x192x384x384 .f32) (ix4 b (hi c) h l))
      = fun c => kvOf hi (V (Proc.devRef .tc main_arg1)) (V (Proc.devRef .tc main_arg4)) (V (Proc.devRef .tc main_arg5)) b c (h.val * 384 + l.val) := by
    funext c
    refine (convKV V b (hi c) h l).trans ?_
    have h1 : (h.val * 384 + l.val) / 384 = h.val := by omega
    have h2 : (h.val * 384 + l.val) % 384 = l.val := by omega
    unfold kvOf depth
    rw [h1, h2]
    rfl
  exact congrArg₂ (fun s v => mix (fun c => (V (Proc.devRef .tc main_arg6) : FVec Ideal S96x96x1x1 .f32) (ix4 o c 0 0)) s v ((V (Proc.devRef .tc main_arg8) : FVec Ideal S1 .f32) (ix1 0))) hs hv

end Cert.ChannelAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RefAttn
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- From equal arguments the ideal kernel and the ideal reference end with equal results: both are the specification of the arguments. -/
theorem equal_results : Cert.algebraic_KernelIdeal_ReferenceIdeal (hKernelIdeal := Cert.KernelIdeal.Gen.facts) (hReferenceIdeal := Cert.ReferenceIdeal.Gen.facts) := by
  intro m ρ m' ρ' _ hagree
  refine ⟨_, Cert.ChannelAttn.kernel_run m ρ, ?_⟩
  refine (θ_run Cert.ReferenceIdeal.defs _ _).mono (fun _ h c => ⟨((h c).1.trans (Cert.ChannelAttn.refOut (Idealize.ShloMosaic.StableHlo.launchContents m' c))).trans ?_, (h c).2⟩)
    (Cert.ReferenceIdeal.Value.run (F := Ideal) m' ρ')
  obtain ⟨h0, h1, h2, h3, h4, h5, h6, h7, h8⟩ := hagree c
  exact Cert.ChannelAttn.attn_congr h0 h1 h2 h3 h4 h5 h6 h7 h8

/-- The five claims: the three programs run and leave their arguments and semaphores as they were, the idealised kernel is the kernel with one
    constant named, and it computes what the reference computes. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ),
  IdealRules.named_const.statement Cert.KernelIdeal.κ "big" .f32 _ ⊤ rfl, equal_results⟩

end Cert.Proof

end
